-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_v255) = v1 c
          ∧ r.2.mem ((c.tc : Thread Cert.ReferenceIdeal.nD Cert.ReferenceIdeal.τ).loc Cert.ReferenceIdeal.main_v256) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x768x1024 : Shape := ⟨3, ![4, 768, 1024]⟩
abbrev S128x768 : Shape := ⟨2, ![128, 768]⟩
abbrev S128 : Shape := ⟨1, ![128]⟩
abbrev S768x128 : Shape := ⟨2, ![768, 128]⟩
abbrev S768 : Shape := ⟨1, ![768]⟩
abbrev S8x2048x128 : Shape := ⟨3, ![8, 2048, 128]⟩
abbrev S_ : Shape := ⟨0, ![]⟩

class Facts : Prop where
  bcast_S_S4x768x1024 : S_.BroadcastsInDim S4x768x1024 (![] : Fin 0 → Fin S4x768x1024.rank)
  reducesTo_S4x768x1024_S_d0_1_2 : S4x768x1024.ReducesTo [0, 1, 2] S_
  h_S_ : 0 < S_.numel
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_
  bcast_S_S8x2048x128 : S_.BroadcastsInDim S8x2048x128 (![] : Fin 0 → Fin S8x2048x128.rank)
  reducesTo_S8x2048x128_S_d0_1_2 : S8x2048x128.ReducesTo [0, 1, 2] S_

variable [Facts]

def fn_part1 {F : FTy → Type} [FloatOps F] (main_v13 : IVec S_ 1) (main_v16 : IVec S8x2048x128 1) : IVec S_ 1 :=
  let main_c_5 : IVec S_ 1 := constantI S_ 1 1#1
  let main_v17 : IVec S_ 1 := (fun x v => Host.reduce IntOp.andi x v reducesTo_S8x2048x128_S_d0_1_2 h_S_) main_v16 main_c_5
  let main_v18 : IVec S_ 1 := andi main_v13 main_v17
  main_v18

def fn {F : FTy → Type} [FloatOps F] (main_arg0 : FVec F S4x768x1024 .f32) (main_arg1 : FVec F S128x768 .f32) (main_arg2 : FVec F S128 .f32) (main_arg3 : FVec F S768x128 .f32) (main_arg4 : FVec F S768 .f32) (main_arg5 : FVec F S8x2048x128 .f32) : IVec S_ 1 :=
  let main_v0 : FVec F S4x768x1024 .f32 := Host.absf main_arg0
  let main_cst : FVec F S_ .f32 := constant S_ .f32 0x7F800000#32
  let main_v1 : FVec F S4x768x1024 .f32 := broadcastInDim S4x768x1024 ![] bcast_S_S4x768x1024 main_cst
  let main_v2 : IVec S4x768x1024 1 := cmpf .olt main_v0 main_v1
  let main_c : IVec S_ 1 := constantI S_ 1 1#1
  let main_v3 : IVec S_ 1 := (fun x v => Host.reduce IntOp.andi x v reducesTo_S4x768x1024_S_d0_1_2 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8x2048x128 .f32 := Host.absf main_arg5
  let main_cst_4 : FVec F S_ .f32 := constant S_ .f32 0x7F800000#32
  let main_v15 : FVec F S8x2048x128 .f32 := broadcastInDim S8x2048x128 ![] bcast_S_S8x2048x128 main_cst_4
  let main_v16 : IVec S8x2048x128 1 := cmpf .olt main_v14 main_v15
  fn_part1 (F := F) main_v13 main_v16
-- ==== Kernel.lean ====
abbrev S4x768x1024 : Shape := ⟨3, ![4, 768, 1024]⟩
abbrev S128x768 : Shape := ⟨2, ![128, 768]⟩
abbrev S128 : Shape := ⟨1, ![128]⟩
abbrev S768x128 : Shape := ⟨2, ![768, 128]⟩
abbrev S768 : Shape := ⟨1, ![768]⟩
abbrev S8x2048x128 : Shape := ⟨3, ![8, 2048, 128]⟩
abbrev S4x1024x768 : Shape := ⟨3, ![4, 1024, 768]⟩
abbrev S4096x768 : Shape := ⟨2, ![4096, 768]⟩
abbrev S8x128x2048 : Shape := ⟨3, ![8, 128, 2048]⟩
abbrev S_ : Shape := ⟨0, ![]⟩
abbrev S8x2048 : Shape := ⟨2, ![8, 2048]⟩
abbrev S8x1x2048 : Shape := ⟨3, ![8, 1, 2048]⟩
abbrev S1x128 : Shape := ⟨2, ![1, 128]⟩
abbrev S1x768 : Shape := ⟨2, ![1, 768]⟩
abbrev S8x4096 : Shape := ⟨2, ![8, 4096]⟩
abbrev S1x1 : Shape := ⟨2, ![1, 1]⟩
abbrev S256x768 : Shape := ⟨2, ![256, 768]⟩
abbrev S8x256 : Shape := ⟨2, ![8, 256]⟩
abbrev S256x256 : Shape := ⟨2, ![256, 256]⟩
abbrev S256x128 : Shape := ⟨2, ![256, 128]⟩
abbrev S256x2048 : Shape := ⟨2, ![256, 2048]⟩
abbrev S1x128x2048 : Shape := ⟨3, ![1, 128, 2048]⟩
abbrev S128x2048 : Shape := ⟨2, ![128, 2048]⟩
abbrev S256x1 : Shape := ⟨2, ![256, 1]⟩
abbrev S1x1x2048 : Shape := ⟨3, ![1, 1, 2048]⟩
abbrev S1x2048 : Shape := ⟨2, ![1, 2048]⟩
abbrev S256 : Shape := ⟨1, ![256]⟩
abbrev S1x256 : Shape := ⟨2, ![1, 256]⟩
abbrev S1x2048x128 : Shape := ⟨3, ![1, 2048, 128]⟩
abbrev S2048x128 : Shape := ⟨2, ![2048, 128]⟩
abbrev S1x256x128 : Shape := ⟨3, ![1, 256, 128]⟩
abbrev S1 : Shape := ⟨1, ![1]⟩
abbrev S1x1x1 : Shape := ⟨3, ![1, 1, 1]⟩
abbrev S8x4x1024 : Shape := ⟨3, ![8, 4, 1024]⟩
abbrev S4x8x1024 : Shape := ⟨3, ![4, 8, 1024]⟩

abbrev nBuf : Space → Nat
  | .hbm => 37
  | .vmem => 16
  | .smem => 0
  | _ => 0

abbrev bufTy : (tb : Table) → Fin (tcTables nBuf tb) → BufTy
  | .hbm, ⟨0, _⟩ => ⟨S4x768x1024, .f32⟩
  | .hbm, ⟨1, _⟩ => ⟨S128x768, .f32⟩
  | .hbm, ⟨2, _⟩ => ⟨S128, .f32⟩
  | .hbm, ⟨3, _⟩ => ⟨S768x128, .f32⟩
  | .hbm, ⟨4, _⟩ => ⟨S768, .f32⟩
  | .hbm, ⟨5, _⟩ => ⟨S8x2048x128, .f32⟩
  | .hbm, ⟨6, _⟩ => ⟨S4x1024x768, .f32⟩
  | .hbm, ⟨7, _⟩ => ⟨S4096x768, .f32⟩
  | .hbm, ⟨8, _⟩ => ⟨S8x128x2048, .f32⟩
  | .hbm, ⟨9, _⟩ => ⟨S_, .f32⟩
  | .hbm, ⟨10, _⟩ => ⟨S8x128x2048, .f32⟩
  | .hbm, ⟨11, _⟩ => ⟨S8x128x2048, .f32⟩
  | .hbm, ⟨12, _⟩ => ⟨S8x2048x128, .bf16⟩
  | .hbm, ⟨13, _⟩ => ⟨S8x2048x128, .f32⟩
  | .hbm, ⟨14, _⟩ => ⟨S8x2048x128, .f32⟩
  | .hbm, ⟨15, _⟩ => ⟨S8x2048x128, .bf16⟩
  | .hbm, ⟨16, _⟩ => ⟨S8x2048x128, .f32⟩
  | .hbm, ⟨17, _⟩ => ⟨S8x2048x128, .f32⟩
  | .hbm, ⟨18, _⟩ => ⟨S8x2048x128, .bf16⟩
  | .hbm, ⟨19, _⟩ => ⟨S8x2048x128, .f32⟩
  | .hbm, ⟨20, _⟩ => ⟨S_, .f32⟩
  | .hbm, ⟨21, _⟩ => ⟨S8x2048, .f32⟩
  | .hbm, ⟨22, _⟩ => ⟨S8x1x2048, .f32⟩
  | .hbm, ⟨23, _⟩ => ⟨S768x128, .f32⟩
  | .hbm, ⟨24, _⟩ => ⟨S1x128, .f32⟩
  | .hbm, ⟨25, _⟩ => ⟨S128x768, .f32⟩
  | .hbm, ⟨26, _⟩ => ⟨S1x768, .f32⟩
  | .hbm, ⟨27, _⟩ => ⟨S8x4096, .i32⟩
  | .hbm, ⟨28, _⟩ => ⟨S4096x768, .f32⟩
  | .hbm, ⟨29, _⟩ => ⟨S1x1, .f32⟩
  | .hbm, ⟨30, _⟩ => ⟨S8x4x1024, .i32⟩
  | .hbm, ⟨31, _⟩ => ⟨S4x8x1024, .i32⟩
  | .hbm, ⟨32, _⟩ => ⟨S4x1024x768, .f32⟩
  | .hbm, ⟨33, _⟩ => ⟨S4x768x1024, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S256x768, .f32⟩
  | .local _ .vmem, ⟨1, _⟩ => ⟨S256x768, .f32⟩
  | .local _ .vmem, ⟨2, _⟩ => ⟨S768x128, .f32⟩
  | .local _ .vmem, ⟨3, _⟩ => ⟨S1x128, .f32⟩
  | .local _ .vmem, ⟨4, _⟩ => ⟨S8x128x2048, .f32⟩
  | .local _ .vmem, ⟨5, _⟩ => ⟨S8x2048x128, .bf16⟩
  | .local _ .vmem, ⟨6, _⟩ => ⟨S8x2048x128, .bf16⟩
  | .local _ .vmem, ⟨7, _⟩ => ⟨S8x2048x128, .bf16⟩
  | .local _ .vmem, ⟨8, _⟩ => ⟨S8x1x2048, .f32⟩
  | .local _ .vmem, ⟨9, _⟩ => ⟨S128x768, .f32⟩
  | .local _ .vmem, ⟨10, _⟩ => ⟨S1x768, .f32⟩
  | .local _ .vmem, ⟨11, _⟩ => ⟨S8x256, .i32⟩
  | .local _ .vmem, ⟨12, _⟩ => ⟨S8x256, .i32⟩
  | .local _ .vmem, ⟨13, _⟩ => ⟨S256x768, .f32⟩
  | .local _ .vmem, ⟨14, _⟩ => ⟨S256x768, .f32⟩
  | .local _ .vmem, ⟨15, _⟩ => ⟨S1x1, .f32⟩
  | _, _ => ⟨S4x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x256 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4x768x1024 : Shape := ⟨3, ![4, 768, 1024]⟩
abbrev S128x768 : Shape := ⟨2, ![128, 768]⟩
abbrev S128 : Shape := ⟨1, ![128]⟩
abbrev S768x128 : Shape := ⟨2, ![768, 128]⟩
abbrev S768 : Shape := ⟨1, ![768]⟩
abbrev S8x2048x128 : Shape := ⟨3, ![8, 2048, 128]⟩
abbrev S4x1024x768 : Shape := ⟨3, ![4, 1024, 768]⟩
abbrev S4x1024x128 : Shape := ⟨3, ![4, 1024, 128]⟩
abbrev S1x1x128 : Shape := ⟨3, ![1, 1, 128]⟩
abbrev S4x128x1024 : Shape := ⟨3, ![4, 128, 1024]⟩
abbrev S_ : Shape := ⟨0, ![]⟩
abbrev S1x2048x128 : Shape := ⟨3, ![1, 2048, 128]⟩
abbrev S2048x128 : Shape := ⟨2, ![2048, 128]⟩
abbrev S4x1024 : Shape := ⟨2, ![4, 1024]⟩
abbrev S4x1024x1 : Shape := ⟨3, ![4, 1024, 1]⟩
abbrev S2048 : Shape := ⟨1, ![2048]⟩
abbrev S1x1x2048 : Shape := ⟨3, ![1, 1, 2048]⟩
abbrev S4x1024x2048 : Shape := ⟨3, ![4, 1024, 2048]⟩
abbrev S128x2048 : Shape := ⟨2, ![128, 2048]⟩
abbrev S1 : Shape := ⟨1, ![1]⟩
abbrev S1x1x1 : Shape := ⟨3, ![1, 1, 1]⟩
abbrev S4x1x1024 : Shape := ⟨3, ![4, 1, 1024]⟩
abbrev S4x8x1024 : Shape := ⟨3, ![4, 8, 1024]⟩
abbrev S1x1x768 : Shape := ⟨3, ![1, 1, 768]⟩

abbrev nBuf : Space → Nat
  | .hbm => 514
  | .vmem => 0
  | .smem => 0
  | _ => 0

abbrev hbmTy0_0 (i : Nat) : BufTy := match i % 128 with
  | 0 => ⟨S4x768x1024, .f32⟩
  | 1 => ⟨S128x768, .f32⟩
  | 2 => ⟨S128, .f32⟩
  | 3 => ⟨S768x128, .f32⟩
  | 4 => ⟨S768, .f32⟩
  | 5 => ⟨S8x2048x128, .f32⟩
  | 6 => ⟨S4x1024x768, .f32⟩
  | 7 => ⟨S768x128, .f32⟩
  | 8 => ⟨S4x1024x128, .f32⟩
  | 9 => ⟨S1x1x128, .f32⟩
  | 10 => ⟨S4x1024x128, .f32⟩
  | 11 => ⟨S4x1024x128, .f32⟩
  | 12 => ⟨S4x128x1024, .f32⟩
  | 13 => ⟨S_, .f32⟩
  | 14 => ⟨S4x128x1024, .f32⟩
  | 15 => ⟨S1x2048x128, .f32⟩
  | 16 => ⟨S2048x128, .f32⟩
  | 17 => ⟨S4x1024x128, .f32⟩
  | 18 => ⟨S4x1024x128, .f32⟩
  | 19 => ⟨S_, .f32⟩
  | 20 => ⟨S4x1024, .f32⟩
  | 21 => ⟨S4x1024x1, .f32⟩
  | 22 => ⟨S2048x128, .f32⟩
  | 23 => ⟨S_, .f32⟩
  | 24 => ⟨S2048, .f32⟩
  | 25 => ⟨S1x1x2048, .f32⟩
  | 26 => ⟨S4x1024x2048, .f32⟩
  | 27 => ⟨S4x1024x2048, .f32⟩
  | 28 => ⟨S4x1024x2048, .f32⟩
  | 29 => ⟨S128x2048, .f32⟩
  | 30 => ⟨S4x1024x2048, .f32⟩
  | 31 => ⟨S_, .f32⟩
  | 32 => ⟨S4x1024x2048, .f32⟩
  | 33 => ⟨S4x1024x2048, .f32⟩
  | 34 => ⟨S4x1024x2048, .f32⟩
  | 35 => ⟨S4x1024x2048, .i32⟩
  | 36 => ⟨S_, .f32⟩
  | 37 => ⟨S_, .i32⟩
  | 38 => ⟨S4x1024, .f32⟩
  | 39 => ⟨S4x1024, .i32⟩
  | 40 => ⟨S_, .i32⟩
  | 41 => ⟨S4x1024, .i32⟩
  | 42 => ⟨S4x1024, .i1⟩
  | 43 => ⟨S_, .i32⟩
  | 44 => ⟨S4x1024, .i32⟩
  | 45 => ⟨S4x1024, .i32⟩
  | 46 => ⟨S4x1024, .i32⟩
  | 47 => ⟨S4x1024x1, .i32⟩
  | 48 => ⟨S1, .i32⟩
  | 49 => ⟨S_, .i32⟩
  | 50 => ⟨S4x1024x1, .i32⟩
  | 51 => ⟨S4x1024x1, .i1⟩
  | 52 => ⟨S1x1x1, .i32⟩
  | 53 => ⟨S4x1024x1, .i32⟩
  | 54 => ⟨S4x1024x1, .i1⟩
  | 55 => ⟨S4x1024x1, .i1⟩
  | 56 => ⟨S_, .i1⟩
  | 57 => ⟨S4x1024, .i1⟩
  | 58 => ⟨S4x1024x128, .f32⟩
  | 59 => ⟨S4x1024x128, .i1⟩
  | 60 => ⟨S_, .f32⟩
  | 61 => ⟨S4x1024x128, .f32⟩
  | 62 => ⟨S4x1024x128, .f32⟩
  | 63 => ⟨S4x128x1024, .f32⟩
  | 64 => ⟨S4x128x1024, .f32⟩
  | 65 => ⟨S4x128x1024, .f32⟩
  | 66 => ⟨S4x128x1024, .f32⟩
  | 67 => ⟨S4x128x1024, .f32⟩
  | 68 => ⟨S_, .f32⟩
  | 69 => ⟨S_, .f32⟩
  | 70 => ⟨S_, .f32⟩
  | 71 => ⟨S_, .f32⟩
  | 72 => ⟨S4x1x1024, .i32⟩
  | 73 => ⟨S4x128x1024, .f32⟩
  | 74 => ⟨S4x128x1024, .f32⟩
  | 75 => ⟨S_, .f32⟩
  | 76 => ⟨S_, .f32⟩
  | 77 => ⟨S1x2048x128, .f32⟩
  | 78 => ⟨S2048x128, .f32⟩
  | 79 => ⟨S4x1024x128, .f32⟩
  | 80 => ⟨S4x1024x128, .f32⟩
  | 81 => ⟨S_, .f32⟩
  | 82 => ⟨S4x1024, .f32⟩
  | 83 => ⟨S4x1024x1, .f32⟩
  | 84 => ⟨S2048x128, .f32⟩
  | 85 => ⟨S_, .f32⟩
  | 86 => ⟨S2048, .f32⟩
  | 87 => ⟨S1x1x2048, .f32⟩
  | 88 => ⟨S4x1024x2048, .f32⟩
  | 89 => ⟨S4x1024x2048, .f32⟩
  | 90 => ⟨S4x1024x2048, .f32⟩
  | 91 => ⟨S128x2048, .f32⟩
  | 92 => ⟨S4x1024x2048, .f32⟩
  | 93 => ⟨S_, .f32⟩
  | 94 => ⟨S4x1024x2048, .f32⟩
  | 95 => ⟨S4x1024x2048, .f32⟩
  | 96 => ⟨S4x1024x2048, .f32⟩
  | 97 => ⟨S4x1024x2048, .i32⟩
  | 98 => ⟨S_, .f32⟩
  | 99 => ⟨S_, .i32⟩
  | 100 => ⟨S4x1024, .f32⟩
  | 101 => ⟨S4x1024, .i32⟩
  | 102 => ⟨S_, .i32⟩
  | 103 => ⟨S4x1024, .i32⟩
  | 104 => ⟨S4x1024, .i1⟩
  | 105 => ⟨S_, .i32⟩
  | 106 => ⟨S4x1024, .i32⟩
  | 107 => ⟨S4x1024, .i32⟩
  | 108 => ⟨S4x1024, .i32⟩
  | 109 => ⟨S4x1024x1, .i32⟩
  | 110 => ⟨S1, .i32⟩
  | 111 => ⟨S_, .i32⟩
  | 112 => ⟨S4x1024x1, .i32⟩
  | 113 => ⟨S4x1024x1, .i1⟩
  | 114 => ⟨S1x1x1, .i32⟩
  | 115 => ⟨S4x1024x1, .i32⟩
  | 116 => ⟨S4x1024x1, .i1⟩
  | 117 => ⟨S4x1024x1, .i1⟩
  | 118 => ⟨S_, .i1⟩
  | 119 => ⟨S4x1024, .i1⟩
  | 120 => ⟨S4x1024x128, .f32⟩
  | 121 => ⟨S4x1024x128, .i1⟩
  | 122 => ⟨S_, .f32⟩
  | 123 => ⟨S4x1024x128, .f32⟩
  | 124 => ⟨S4x1024x128, .f32⟩
  | 125 => ⟨S4x128x1024, .f32⟩
  | 126 => ⟨S4x128x1024, .f32⟩
  | 127 => ⟨S4x128x1024, .f32⟩
  | _ => ⟨S4x768x1024, .f32⟩

abbrev hbmTy0_1 (i : Nat) : BufTy := match i % 128 with
  | 0 => ⟨S4x128x1024, .f32⟩
  | 1 => ⟨S4x128x1024, .f32⟩
  | 2 => ⟨S_, .f32⟩
  | 3 => ⟨S_, .f32⟩
  | 4 => ⟨S_, .f32⟩
  | 5 => ⟨S_, .f32⟩
  | 6 => ⟨S4x1x1024, .i32⟩
  | 7 => ⟨S4x128x1024, .f32⟩
  | 8 => ⟨S4x128x1024, .f32⟩
  | 9 => ⟨S_, .f32⟩
  | 10 => ⟨S1x2048x128, .f32⟩
  | 11 => ⟨S2048x128, .f32⟩
  | 12 => ⟨S4x1024x128, .f32⟩
  | 13 => ⟨S4x1024x128, .f32⟩
  | 14 => ⟨S_, .f32⟩
  | 15 => ⟨S4x1024, .f32⟩
  | 16 => ⟨S4x1024x1, .f32⟩
  | 17 => ⟨S2048x128, .f32⟩
  | 18 => ⟨S_, .f32⟩
  | 19 => ⟨S2048, .f32⟩
  | 20 => ⟨S1x1x2048, .f32⟩
  | 21 => ⟨S4x1024x2048, .f32⟩
  | 22 => ⟨S4x1024x2048, .f32⟩
  | 23 => ⟨S4x1024x2048, .f32⟩
  | 24 => ⟨S128x2048, .f32⟩
  | 25 => ⟨S4x1024x2048, .f32⟩
  | 26 => ⟨S_, .f32⟩
  | 27 => ⟨S4x1024x2048, .f32⟩
  | 28 => ⟨S4x1024x2048, .f32⟩
  | 29 => ⟨S4x1024x2048, .f32⟩
  | 30 => ⟨S4x1024x2048, .i32⟩
  | 31 => ⟨S_, .f32⟩
  | 32 => ⟨S_, .i32⟩
  | 33 => ⟨S4x1024, .f32⟩
  | 34 => ⟨S4x1024, .i32⟩
  | 35 => ⟨S_, .i32⟩
  | 36 => ⟨S4x1024, .i32⟩
  | 37 => ⟨S4x1024, .i1⟩
  | 38 => ⟨S_, .i32⟩
  | 39 => ⟨S4x1024, .i32⟩
  | 40 => ⟨S4x1024, .i32⟩
  | 41 => ⟨S4x1024, .i32⟩
  | 42 => ⟨S4x1024x1, .i32⟩
  | 43 => ⟨S1, .i32⟩
  | 44 => ⟨S_, .i32⟩
  | 45 => ⟨S4x1024x1, .i32⟩
  | 46 => ⟨S4x1024x1, .i1⟩
  | 47 => ⟨S1x1x1, .i32⟩
  | 48 => ⟨S4x1024x1, .i32⟩
  | 49 => ⟨S4x1024x1, .i1⟩
  | 50 => ⟨S4x1024x1, .i1⟩
  | 51 => ⟨S_, .i1⟩
  | 52 => ⟨S4x1024, .i1⟩
  | 53 => ⟨S4x1024x128, .f32⟩
  | 54 => ⟨S4x1024x128, .i1⟩
  | 55 => ⟨S_, .f32⟩
  | 56 => ⟨S4x1024x128, .f32⟩
  | 57 => ⟨S4x1024x128, .f32⟩
  | 58 => ⟨S4x128x1024, .f32⟩
  | 59 => ⟨S4x128x1024, .f32⟩
  | 60 => ⟨S4x128x1024, .f32⟩
  | 61 => ⟨S4x128x1024, .f32⟩
  | 62 => ⟨S4x128x1024, .f32⟩
  | 63 => ⟨S_, .f32⟩
  | 64 => ⟨S_, .f32⟩
  | 65 => ⟨S_, .f32⟩
  | 66 => ⟨S_, .f32⟩
  | 67 => ⟨S4x1x1024, .i32⟩
  | 68 => ⟨S4x128x1024, .f32⟩
  | 69 => ⟨S4x128x1024, .f32⟩
  | 70 => ⟨S_, .f32⟩
  | 71 => ⟨S1x2048x128, .f32⟩
  | 72 => ⟨S2048x128, .f32⟩
  | 73 => ⟨S4x1024x128, .f32⟩
  | 74 => ⟨S4x1024x128, .f32⟩
  | 75 => ⟨S_, .f32⟩
  | 76 => ⟨S4x1024, .f32⟩
  | 77 => ⟨S4x1024x1, .f32⟩
  | 78 => ⟨S2048x128, .f32⟩
  | 79 => ⟨S_, .f32⟩
  | 80 => ⟨S2048, .f32⟩
  | 81 => ⟨S1x1x2048, .f32⟩
  | 82 => ⟨S4x1024x2048, .f32⟩
  | 83 => ⟨S4x1024x2048, .f32⟩
  | 84 => ⟨S4x1024x2048, .f32⟩
  | 85 => ⟨S128x2048, .f32⟩
  | 86 => ⟨S4x1024x2048, .f32⟩
  | 87 => ⟨S_, .f32⟩
  | 88 => ⟨S4x1024x2048, .f32⟩
  | 89 => ⟨S4x1024x2048, .f32⟩
  | 90 => ⟨S4x1024x2048, .f32⟩
  | 91 => ⟨S4x1024x2048, .i32⟩
  | 92 => ⟨S_, .f32⟩
  | 93 => ⟨S_, .i32⟩
  | 94 => ⟨S4x1024, .f32⟩
  | 95 => ⟨S4x1024, .i32⟩
  | 96 => ⟨S_, .i32⟩
  | 97 => ⟨S4x1024, .i32⟩
  | 98 => ⟨S4x1024, .i1⟩
  | 99 => ⟨S_, .i32⟩
  | 100 => ⟨S4x1024, .i32⟩
  | 101 => ⟨S4x1024, .i32⟩
  | 102 => ⟨S4x1024, .i32⟩
  | 103 => ⟨S4x1024x1, .i32⟩
  | 104 => ⟨S1, .i32⟩
  | 105 => ⟨S_, .i32⟩
  | 106 => ⟨S4x1024x1, .i32⟩
  | 107 => ⟨S4x1024x1, .i1⟩
  | 108 => ⟨S1x1x1, .i32⟩
  | 109 => ⟨S4x1024x1, .i32⟩
  | 110 => ⟨S4x1024x1, .i1⟩
  | 111 => ⟨S4x1024x1, .i1⟩
  | 112 => ⟨S_, .i1⟩
  | 113 => ⟨S4x1024, .i1⟩
  | 114 => ⟨S4x1024x128, .f32⟩
  | 115 => ⟨S4x1024x128, .i1⟩
  | 116 => ⟨S_, .f32⟩
  | 117 => ⟨S4x1024x128, .f32⟩
  | 118 => ⟨S4x1024x128, .f32⟩
  | 119 => ⟨S4x128x1024, .f32⟩
  | 120 => ⟨S4x128x1024, .f32⟩
  | 121 => ⟨S4x128x1024, .f32⟩
  | 122 => ⟨S4x128x1024, .f32⟩
  | 123 => ⟨S4x128x1024, .f32⟩
  | 124 => ⟨S_, .f32⟩
  | 125 => ⟨S_, .f32⟩
  | 126 => ⟨S_, .f32⟩
  | 127 => ⟨S_, .f32⟩
  | _ => ⟨S4x768x1024, .f32⟩

abbrev hbmTy0_2 (i : Nat) : BufTy := match i % 128 with
  | 0 => ⟨S4x1x1024, .i32⟩
  | 1 => ⟨S4x128x1024, .f32⟩
  | 2 => ⟨S4x128x1024, .f32⟩
  | 3 => ⟨S_, .f32⟩
  | 4 => ⟨S1x2048x128, .f32⟩
  | 5 => ⟨S2048x128, .f32⟩
  | 6 => ⟨S4x1024x128, .f32⟩
  | 7 => ⟨S4x1024x128, .f32⟩
  | 8 => ⟨S_, .f32⟩
  | 9 => ⟨S4x1024, .f32⟩
  | 10 => ⟨S4x1024x1, .f32⟩
  | 11 => ⟨S2048x128, .f32⟩
  | 12 => ⟨S_, .f32⟩
  | 13 => ⟨S2048, .f32⟩
  | 14 => ⟨S1x1x2048, .f32⟩
  | 15 => ⟨S4x1024x2048, .f32⟩
  | 16 => ⟨S4x1024x2048, .f32⟩
  | 17 => ⟨S4x1024x2048, .f32⟩
  | 18 => ⟨S128x2048, .f32⟩
  | 19 => ⟨S4x1024x2048, .f32⟩
  | 20 => ⟨S_, .f32⟩
  | 21 => ⟨S4x1024x2048, .f32⟩
  | 22 => ⟨S4x1024x2048, .f32⟩
  | 23 => ⟨S4x1024x2048, .f32⟩
  | 24 => ⟨S4x1024x2048, .i32⟩
  | 25 => ⟨S_, .f32⟩
  | 26 => ⟨S_, .i32⟩
  | 27 => ⟨S4x1024, .f32⟩
  | 28 => ⟨S4x1024, .i32⟩
  | 29 => ⟨S_, .i32⟩
  | 30 => ⟨S4x1024, .i32⟩
  | 31 => ⟨S4x1024, .i1⟩
  | 32 => ⟨S_, .i32⟩
  | 33 => ⟨S4x1024, .i32⟩
  | 34 => ⟨S4x1024, .i32⟩
  | 35 => ⟨S4x1024, .i32⟩
  | 36 => ⟨S4x1024x1, .i32⟩
  | 37 => ⟨S1, .i32⟩
  | 38 => ⟨S_, .i32⟩
  | 39 => ⟨S4x1024x1, .i32⟩
  | 40 => ⟨S4x1024x1, .i1⟩
  | 41 => ⟨S1x1x1, .i32⟩
  | 42 => ⟨S4x1024x1, .i32⟩
  | 43 => ⟨S4x1024x1, .i1⟩
  | 44 => ⟨S4x1024x1, .i1⟩
  | 45 => ⟨S_, .i1⟩
  | 46 => ⟨S4x1024, .i1⟩
  | 47 => ⟨S4x1024x128, .f32⟩
  | 48 => ⟨S4x1024x128, .i1⟩
  | 49 => ⟨S_, .f32⟩
  | 50 => ⟨S4x1024x128, .f32⟩
  | 51 => ⟨S4x1024x128, .f32⟩
  | 52 => ⟨S4x128x1024, .f32⟩
  | 53 => ⟨S4x128x1024, .f32⟩
  | 54 => ⟨S4x128x1024, .f32⟩
  | 55 => ⟨S4x128x1024, .f32⟩
  | 56 => ⟨S4x128x1024, .f32⟩
  | 57 => ⟨S_, .f32⟩
  | 58 => ⟨S_, .f32⟩
  | 59 => ⟨S_, .f32⟩
  | 60 => ⟨S_, .f32⟩
  | 61 => ⟨S4x1x1024, .i32⟩
  | 62 => ⟨S4x128x1024, .f32⟩
  | 63 => ⟨S4x128x1024, .f32⟩
  | 64 => ⟨S_, .f32⟩
  | 65 => ⟨S1x2048x128, .f32⟩
  | 66 => ⟨S2048x128, .f32⟩
  | 67 => ⟨S4x1024x128, .f32⟩
  | 68 => ⟨S4x1024x128, .f32⟩
  | 69 => ⟨S_, .f32⟩
  | 70 => ⟨S4x1024, .f32⟩
  | 71 => ⟨S4x1024x1, .f32⟩
  | 72 => ⟨S2048x128, .f32⟩
  | 73 => ⟨S_, .f32⟩
  | 74 => ⟨S2048, .f32⟩
  | 75 => ⟨S1x1x2048, .f32⟩
  | 76 => ⟨S4x1024x2048, .f32⟩
  | 77 => ⟨S4x1024x2048, .f32⟩
  | 78 => ⟨S4x1024x2048, .f32⟩
  | 79 => ⟨S128x2048, .f32⟩
  | 80 => ⟨S4x1024x2048, .f32⟩
  | 81 => ⟨S_, .f32⟩
  | 82 => ⟨S4x1024x2048, .f32⟩
  | 83 => ⟨S4x1024x2048, .f32⟩
  | 84 => ⟨S4x1024x2048, .f32⟩
  | 85 => ⟨S4x1024x2048, .i32⟩
  | 86 => ⟨S_, .f32⟩
  | 87 => ⟨S_, .i32⟩
  | 88 => ⟨S4x1024, .f32⟩
  | 89 => ⟨S4x1024, .i32⟩
  | 90 => ⟨S_, .i32⟩
  | 91 => ⟨S4x1024, .i32⟩
  | 92 => ⟨S4x1024, .i1⟩
  | 93 => ⟨S_, .i32⟩
  | 94 => ⟨S4x1024, .i32⟩
  | 95 => ⟨S4x1024, .i32⟩
  | 96 => ⟨S4x1024, .i32⟩
  | 97 => ⟨S4x1024x1, .i32⟩
  | 98 => ⟨S1, .i32⟩
  | 99 => ⟨S_, .i32⟩
  | 100 => ⟨S4x1024x1, .i32⟩
  | 101 => ⟨S4x1024x1, .i1⟩
  | 102 => ⟨S1x1x1, .i32⟩
  | 103 => ⟨S4x1024x1, .i32⟩
  | 104 => ⟨S4x1024x1, .i1⟩
  | 105 => ⟨S4x1024x1, .i1⟩
  | 106 => ⟨S_, .i1⟩
  | 107 => ⟨S4x1024, .i1⟩
  | 108 => ⟨S4x1024x128, .f32⟩
  | 109 => ⟨S4x1024x128, .i1⟩
  | 110 => ⟨S_, .f32⟩
  | 111 => ⟨S4x1024x128, .f32⟩
  | 112 => ⟨S4x1024x128, .f32⟩
  | 113 => ⟨S4x128x1024, .f32⟩
  | 114 => ⟨S4x128x1024, .f32⟩
  | 115 => ⟨S4x128x1024, .f32⟩
  | 116 => ⟨S4x128x1024, .f32⟩
  | 117 => ⟨S4x128x1024, .f32⟩
  | 118 => ⟨S_, .f32⟩
  | 119 => ⟨S_, .f32⟩
  | 120 => ⟨S_, .f32⟩
  | 121 => ⟨S_, .f32⟩
  | 122 => ⟨S4x1x1024, .i32⟩
  | 123 => ⟨S4x128x1024, .f32⟩
  | 124 => ⟨S4x128x1024, .f32⟩
  | 125 => ⟨S_, .f32⟩
  | 126 => ⟨S1x2048x128, .f32⟩
  | 127 => ⟨S2048x128, .f32⟩
  | _ => ⟨S4x768x1024, .f32⟩

abbrev hbmTy0_3 (i : Nat) : BufTy := match i % 128 with
  | 0 => ⟨S4x1024x128, .f32⟩
  | 1 => ⟨S4x1024x128, .f32⟩
  | 2 => ⟨S_, .f32⟩
  | 3 => ⟨S4x1024, .f32⟩
  | 4 => ⟨S4x1024x1, .f32⟩
  | 5 => ⟨S2048x128, .f32⟩
  | 6 => ⟨S_, .f32⟩
  | 7 => ⟨S2048, .f32⟩
  | 8 => ⟨S1x1x2048, .f32⟩
  | 9 => ⟨S4x1024x2048, .f32⟩
  | 10 => ⟨S4x1024x2048, .f32⟩
  | 11 => ⟨S4x1024x2048, .f32⟩
  | 12 => ⟨S128x2048, .f32⟩
  | 13 => ⟨S4x1024x2048, .f32⟩
  | 14 => ⟨S_, .f32⟩
  | 15 => ⟨S4x1024x2048, .f32⟩
  | 16 => ⟨S4x1024x2048, .f32⟩
  | 17 => ⟨S4x1024x2048, .f32⟩
  | 18 => ⟨S4x1024x2048, .i32⟩
  | 19 => ⟨S_, .f32⟩
  | 20 => ⟨S_, .i32⟩
  | 21 => ⟨S4x1024, .f32⟩
  | 22 => ⟨S4x1024, .i32⟩
  | 23 => ⟨S_, .i32⟩
  | 24 => ⟨S4x1024, .i32⟩
  | 25 => ⟨S4x1024, .i1⟩
  | 26 => ⟨S_, .i32⟩
  | 27 => ⟨S4x1024, .i32⟩
  | 28 => ⟨S4x1024, .i32⟩
  | 29 => ⟨S4x1024, .i32⟩
  | 30 => ⟨S4x1024x1, .i32⟩
  | 31 => ⟨S1, .i32⟩
  | 32 => ⟨S_, .i32⟩
  | 33 => ⟨S4x1024x1, .i32⟩
  | 34 => ⟨S4x1024x1, .i1⟩
  | 35 => ⟨S1x1x1, .i32⟩
  | 36 => ⟨S4x1024x1, .i32⟩
  | 37 => ⟨S4x1024x1, .i1⟩
  | 38 => ⟨S4x1024x1, .i1⟩
  | 39 => ⟨S_, .i1⟩
  | 40 => ⟨S4x1024, .i1⟩
  | 41 => ⟨S4x1024x128, .f32⟩
  | 42 => ⟨S4x1024x128, .i1⟩
  | 43 => ⟨S_, .f32⟩
  | 44 => ⟨S4x1024x128, .f32⟩
  | 45 => ⟨S4x1024x128, .f32⟩
  | 46 => ⟨S4x128x1024, .f32⟩
  | 47 => ⟨S4x128x1024, .f32⟩
  | 48 => ⟨S4x128x1024, .f32⟩
  | 49 => ⟨S4x128x1024, .f32⟩
  | 50 => ⟨S4x128x1024, .f32⟩
  | 51 => ⟨S_, .f32⟩
  | 52 => ⟨S_, .f32⟩
  | 53 => ⟨S_, .f32⟩
  | 54 => ⟨S_, .f32⟩
  | 55 => ⟨S4x1x1024, .i32⟩
  | 56 => ⟨S4x128x1024, .f32⟩
  | 57 => ⟨S4x128x1024, .f32⟩
  | 58 => ⟨S_, .f32⟩
  | 59 => ⟨S1x2048x128, .f32⟩
  | 60 => ⟨S2048x128, .f32⟩
  | 61 => ⟨S4x1024x128, .f32⟩
  | 62 => ⟨S4x1024x128, .f32⟩
  | 63 => ⟨S_, .f32⟩
  | 64 => ⟨S4x1024, .f32⟩
  | 65 => ⟨S4x1024x1, .f32⟩
  | 66 => ⟨S2048x128, .f32⟩
  | 67 => ⟨S_, .f32⟩
  | 68 => ⟨S2048, .f32⟩
  | 69 => ⟨S1x1x2048, .f32⟩
  | 70 => ⟨S4x1024x2048, .f32⟩
  | 71 => ⟨S4x1024x2048, .f32⟩
  | 72 => ⟨S4x1024x2048, .f32⟩
  | 73 => ⟨S128x2048, .f32⟩
  | 74 => ⟨S4x1024x2048, .f32⟩
  | 75 => ⟨S_, .f32⟩
  | 76 => ⟨S4x1024x2048, .f32⟩
  | 77 => ⟨S4x1024x2048, .f32⟩
  | 78 => ⟨S4x1024x2048, .f32⟩
  | 79 => ⟨S4x1024x2048, .i32⟩
  | 80 => ⟨S_, .f32⟩
  | 81 => ⟨S_, .i32⟩
  | 82 => ⟨S4x1024, .f32⟩
  | 83 => ⟨S4x1024, .i32⟩
  | 84 => ⟨S_, .i32⟩
  | 85 => ⟨S4x1024, .i32⟩
  | 86 => ⟨S4x1024, .i1⟩
  | 87 => ⟨S_, .i32⟩
  | 88 => ⟨S4x1024, .i32⟩
  | 89 => ⟨S4x1024, .i32⟩
  | 90 => ⟨S4x1024, .i32⟩
  | 91 => ⟨S4x1024x1, .i32⟩
  | 92 => ⟨S1, .i32⟩
  | 93 => ⟨S_, .i32⟩
  | 94 => ⟨S4x1024x1, .i32⟩
  | 95 => ⟨S4x1024x1, .i1⟩
  | 96 => ⟨S1x1x1, .i32⟩
  | 97 => ⟨S4x1024x1, .i32⟩
  | 98 => ⟨S4x1024x1, .i1⟩
  | 99 => ⟨S4x1024x1, .i1⟩
  | 100 => ⟨S_, .i1⟩
  | 101 => ⟨S4x1024, .i1⟩
  | 102 => ⟨S4x1024x128, .f32⟩
  | 103 => ⟨S4x1024x128, .i1⟩
  | 104 => ⟨S_, .f32⟩
  | 105 => ⟨S4x1024x128, .f32⟩
  | 106 => ⟨S4x1024x128, .f32⟩
  | 107 => ⟨S4x128x1024, .f32⟩
  | 108 => ⟨S4x128x1024, .f32⟩
  | 109 => ⟨S4x128x1024, .f32⟩
  | 110 => ⟨S4x128x1024, .f32⟩
  | 111 => ⟨S4x128x1024, .f32⟩
  | 112 => ⟨S_, .f32⟩
  | 113 => ⟨S_, .f32⟩
  | 114 => ⟨S_, .f32⟩
  | 115 => ⟨S_, .f32⟩
  | 116 => ⟨S4x1x1024, .i32⟩
  | 117 => ⟨S4x128x1024, .f32⟩
  | 118 => ⟨S4x128x1024, .f32⟩
  | 119 => ⟨S_, .f32⟩
  | 120 => ⟨S4x8x1024, .i32⟩
  | 121 => ⟨S4x1024x128, .f32⟩
  | 122 => ⟨S128x768, .f32⟩
  | 123 => ⟨S4x1024x768, .f32⟩
  | 124 => ⟨S1x1x768, .f32⟩
  | 125 => ⟨S4x1024x768, .f32⟩
  | 126 => ⟨S4x1024x768, .f32⟩
  | 127 => ⟨S4x768x1024, .f32⟩
  | _ => ⟨S4x768x1024, .f32⟩

abbrev hbmTy0_4 (i : Nat) : BufTy := match i % 128 with
  | 0 => ⟨S_, .f32⟩
  | 1 => ⟨S_, .f32⟩
  | _ => ⟨S4x768x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x768x1024, .f32⟩

abbrev bufTy : (tb : Table) → Fin (tcTables nBuf tb) → BufTy
  | .hbm, ⟨i, _⟩ => hbmTy i
  | _, _ => ⟨S4x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_cst : Ref sig .tc := ⟨.hbm, 36, rfl⟩
abbrev main_call0_c : Ref sig .tc := ⟨.hbm, 37, rfl⟩
abbrev main_call0_v1_0 : Ref sig .tc := ⟨.hbm, 38, rfl⟩
abbrev main_v25 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_3 : Ref sig .tc := ⟨.hbm, 68, rfl⟩
abbrev main_v32 : Ref sig .tc := ⟨.hbm, 69, rfl⟩
abbrev main_cst_4 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_6 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_7 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_8 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_call2_v0 : Ref sig .tc := ⟨.hbm, 97, rfl⟩
abbrev main_call2_cst : Ref sig .tc := ⟨.hbm, 98, rfl⟩
abbrev main_call2_c : Ref sig .tc := ⟨.hbm, 99, rfl⟩
abbrev main_call2_v1_0 : Ref sig .tc := ⟨.hbm, 100, rfl⟩
abbrev main_v55 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_cst : Ref sig .tc := ⟨.hbm, 122, rfl⟩
abbrev main_call3_v15 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_9 : Ref sig .tc := ⟨.hbm, 130, rfl⟩
abbrev main_v62 : Ref sig .tc := ⟨.hbm, 131, rfl⟩
abbrev main_cst_10 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_cst_11 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_cst_12 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_13 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_call4_v0 : Ref sig .tc := ⟨.hbm, 158, rfl⟩
abbrev main_call4_cst : Ref sig .tc := ⟨.hbm, 159, rfl⟩
abbrev main_call4_c : Ref sig .tc := ⟨.hbm, 160, rfl⟩
abbrev main_call4_v1_0 : Ref sig .tc := ⟨.hbm, 161, rfl⟩
abbrev main_v85 : Ref sig .tc := ⟨.hbm, 162, rfl⟩
abbrev main_call5_c : Ref sig .tc := ⟨.hbm, 163, rfl⟩
abbrev main_call5_v0 : Ref sig .tc := ⟨.hbm, 164, rfl⟩
abbrev main_call5_v1 : Ref sig .tc := ⟨.hbm, 165, rfl⟩
abbrev main_call5_c_0 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_call5_v5 : Ref sig .tc := ⟨.hbm, 170, rfl⟩
abbrev main_call5_c_1 : Ref sig .tc := ⟨.hbm, 171, rfl⟩
abbrev main_call5_c_2 : Ref sig .tc := ⟨.hbm, 172, rfl⟩
abbrev main_call5_v6 : Ref sig .tc := ⟨.hbm, 173, rfl⟩
abbrev main_call5_v7 : Ref sig .tc := ⟨.hbm, 174, rfl⟩
abbrev main_call5_v8 : Ref sig .tc := ⟨.hbm, 175, rfl⟩
abbrev main_call5_v9 : Ref sig .tc := ⟨.hbm, 176, rfl⟩
abbrev main_call5_v10 : Ref sig .tc := ⟨.hbm, 177, rfl⟩
abbrev main_call5_v11 : Ref sig .tc := ⟨.hbm, 178, rfl⟩
abbrev main_call5_c_3 : Ref sig .tc := ⟨.hbm, 179, rfl⟩
abbrev main_call5_v12 : Ref sig .tc := ⟨.hbm, 180, rfl⟩
abbrev main_call5_v13 : Ref sig .tc := ⟨.hbm, 181, rfl⟩
abbrev main_call5_v14 : Ref sig .tc := ⟨.hbm, 182, rfl⟩
abbrev main_call5_cst : Ref sig .tc := ⟨.hbm, 183, rfl⟩
abbrev main_call5_v15 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_cst_14 : Ref sig .tc := ⟨.hbm, 191, rfl⟩
abbrev main_v92 : Ref sig .tc := ⟨.hbm, 192, rfl⟩
abbrev main_cst_15 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_cst_16 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_cst_17 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_cst_18 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_call6_v0 : Ref sig .tc := ⟨.hbm, 219, rfl⟩
abbrev main_call6_cst : Ref sig .tc := ⟨.hbm, 220, rfl⟩
abbrev main_call6_c : Ref sig .tc := ⟨.hbm, 221, rfl⟩
abbrev main_call6_v1_0 : Ref sig .tc := ⟨.hbm, 222, rfl⟩
abbrev main_v115 : Ref sig .tc := ⟨.hbm, 223, rfl⟩
abbrev main_call7_c : Ref sig .tc := ⟨.hbm, 224, rfl⟩
abbrev main_call7_v0 : Ref sig .tc := ⟨.hbm, 225, rfl⟩
abbrev main_call7_v1 : Ref sig .tc := ⟨.hbm, 226, rfl⟩
abbrev main_call7_c_0 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_call7_v5 : Ref sig .tc := ⟨.hbm, 231, rfl⟩
abbrev main_call7_c_1 : Ref sig .tc := ⟨.hbm, 232, rfl⟩
abbrev main_call7_c_2 : Ref sig .tc := ⟨.hbm, 233, rfl⟩
abbrev main_call7_v6 : Ref sig .tc := ⟨.hbm, 234, rfl⟩
abbrev main_call7_v7 : Ref sig .tc := ⟨.hbm, 235, rfl⟩
abbrev main_call7_v8 : Ref sig .tc := ⟨.hbm, 236, rfl⟩
abbrev main_call7_v9 : Ref sig .tc := ⟨.hbm, 237, rfl⟩
abbrev main_call7_v10 : Ref sig .tc := ⟨.hbm, 238, rfl⟩
abbrev main_call7_v11 : Ref sig .tc := ⟨.hbm, 239, rfl⟩
abbrev main_call7_c_3 : Ref sig .tc := ⟨.hbm, 240, rfl⟩
abbrev main_call7_v12 : Ref sig .tc := ⟨.hbm, 241, rfl⟩
abbrev main_call7_v13 : Ref sig .tc := ⟨.hbm, 242, rfl⟩
abbrev main_call7_v14 : Ref sig .tc := ⟨.hbm, 243, rfl⟩
abbrev main_call7_cst : Ref sig .tc := ⟨.hbm, 244, rfl⟩
abbrev main_call7_v15 : Ref sig .tc := ⟨.hbm, 245, rfl⟩
abbrev main_v116 : Ref sig .tc := ⟨.hbm, 246, rfl⟩
abbrev main_v117 : Ref sig .tc := ⟨.hbm, 247, rfl⟩
abbrev main_v118 : Ref sig .tc := ⟨.hbm, 248, rfl⟩
abbrev main_v119 : Ref sig .tc := ⟨.hbm, 249, rfl⟩
abbrev main_v120 : Ref sig .tc := ⟨.hbm, 250, rfl⟩
abbrev main_v121 : Ref sig .tc := ⟨.hbm, 251, rfl⟩
abbrev main_cst_19 : Ref sig .tc := ⟨.hbm, 252, rfl⟩
abbrev main_v122 : Ref sig .tc := ⟨.hbm, 253, rfl⟩
abbrev main_cst_20 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_v126 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_cst_21 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_cst_22 : Ref sig .tc := ⟨.hbm, 268, rfl⟩
abbrev main_v135 : Ref sig .tc := ⟨.hbm, 269, rfl⟩
abbrev main_v136 : Ref sig .tc := ⟨.hbm, 270, rfl⟩
abbrev main_v137 : Ref sig .tc := ⟨.hbm, 271, rfl⟩
abbrev main_v138 : Ref sig .tc := ⟨.hbm, 272, rfl⟩
abbrev main_v139 : Ref sig .tc := ⟨.hbm, 273, rfl⟩
abbrev main_v140 : Ref sig .tc := ⟨.hbm, 274, rfl⟩
abbrev main_v141 : Ref sig .tc := ⟨.hbm, 275, rfl⟩
abbrev main_cst_23 : Ref sig .tc := ⟨.hbm, 276, rfl⟩
abbrev main_v142 : Ref sig .tc := ⟨.hbm, 277, rfl⟩
abbrev main_v143 : Ref sig .tc := ⟨.hbm, 278, rfl⟩
abbrev main_v144 : Ref sig .tc := ⟨.hbm, 279, rfl⟩
abbrev main_call8_v0 : Ref sig .tc := ⟨.hbm, 280, rfl⟩
abbrev main_call8_cst : Ref sig .tc := ⟨.hbm, 281, rfl⟩
abbrev main_call8_c : Ref sig .tc := ⟨.hbm, 282, rfl⟩
abbrev main_call8_v1_0 : Ref sig .tc := ⟨.hbm, 283, rfl⟩
abbrev main_v145 : Ref sig .tc := ⟨.hbm, 284, rfl⟩
abbrev main_call9_c : Ref sig .tc := ⟨.hbm, 285, rfl⟩
abbrev main_call9_v0 : Ref sig .tc := ⟨.hbm, 286, rfl⟩
abbrev main_call9_v1 : Ref sig .tc := ⟨.hbm, 287, rfl⟩
abbrev main_call9_c_0 : Ref sig .tc := ⟨.hbm, 288, rfl⟩
abbrev main_call9_v2 : Ref sig .tc := ⟨.hbm, 289, rfl⟩
abbrev main_call9_v3 : Ref sig .tc := ⟨.hbm, 290, rfl⟩
abbrev main_call9_v4 : Ref sig .tc := ⟨.hbm, 291, rfl⟩
abbrev main_call9_v5 : Ref sig .tc := ⟨.hbm, 292, rfl⟩
abbrev main_call9_c_1 : Ref sig .tc := ⟨.hbm, 293, rfl⟩
abbrev main_call9_c_2 : Ref sig .tc := ⟨.hbm, 294, rfl⟩
abbrev main_call9_v6 : Ref sig .tc := ⟨.hbm, 295, rfl⟩
abbrev main_call9_v7 : Ref sig .tc := ⟨.hbm, 296, rfl⟩
abbrev main_call9_v8 : Ref sig .tc := ⟨.hbm, 297, rfl⟩
abbrev main_call9_v9 : Ref sig .tc := ⟨.hbm, 298, rfl⟩
abbrev main_call9_v10 : Ref sig .tc := ⟨.hbm, 299, rfl⟩
abbrev main_call9_v11 : Ref sig .tc := ⟨.hbm, 300, rfl⟩
abbrev main_call9_c_3 : Ref sig .tc := ⟨.hbm, 301, rfl⟩
abbrev main_call9_v12 : Ref sig .tc := ⟨.hbm, 302, rfl⟩
abbrev main_call9_v13 : Ref sig .tc := ⟨.hbm, 303, rfl⟩
abbrev main_call9_v14 : Ref sig .tc := ⟨.hbm, 304, rfl⟩
abbrev main_call9_cst : Ref sig .tc := ⟨.hbm, 305, rfl⟩
abbrev main_call9_v15 : Ref sig .tc := ⟨.hbm, 306, rfl⟩
abbrev main_v146 : Ref sig .tc := ⟨.hbm, 307, rfl⟩
abbrev main_v147 : Ref sig .tc := ⟨.hbm, 308, rfl⟩
abbrev main_v148 : Ref sig .tc := ⟨.hbm, 309, rfl⟩
abbrev main_v149 : Ref sig .tc := ⟨.hbm, 310, rfl⟩
abbrev main_v150 : Ref sig .tc := ⟨.hbm, 311, rfl⟩
abbrev main_v151 : Ref sig .tc := ⟨.hbm, 312, rfl⟩
abbrev main_cst_24 : Ref sig .tc := ⟨.hbm, 313, rfl⟩
abbrev main_v152 : Ref sig .tc := ⟨.hbm, 314, rfl⟩
abbrev main_cst_25 : Ref sig .tc := ⟨.hbm, 315, rfl⟩
abbrev main_v153 : Ref sig .tc := ⟨.hbm, 316, rfl⟩
abbrev main_v154 : Ref sig .tc := ⟨.hbm, 317, rfl⟩
abbrev main_v155 : Ref sig .tc := ⟨.hbm, 318, rfl⟩
abbrev main_v156 : Ref sig .tc := ⟨.hbm, 319, rfl⟩
abbrev main_v157 : Ref sig .tc := ⟨.hbm, 320, rfl⟩
abbrev main_v158 : Ref sig .tc := ⟨.hbm, 321, rfl⟩
abbrev main_v159 : Ref sig .tc := ⟨.hbm, 322, rfl⟩
abbrev main_v160 : Ref sig .tc := ⟨.hbm, 323, rfl⟩
abbrev main_v161 : Ref sig .tc := ⟨.hbm, 324, rfl⟩
abbrev main_cst_26 : Ref sig .tc := ⟨.hbm, 325, rfl⟩
abbrev main_v162 : Ref sig .tc := ⟨.hbm, 326, rfl⟩
abbrev main_v163 : Ref sig .tc := ⟨.hbm, 327, rfl⟩
abbrev main_v164 : Ref sig .tc := ⟨.hbm, 328, rfl⟩
abbrev main_cst_27 : Ref sig .tc := ⟨.hbm, 329, rfl⟩
abbrev main_v165 : Ref sig .tc := ⟨.hbm, 330, rfl⟩
abbrev main_v166 : Ref sig .tc := ⟨.hbm, 331, rfl⟩
abbrev main_v167 : Ref sig .tc := ⟨.hbm, 332, rfl⟩
abbrev main_v168 : Ref sig .tc := ⟨.hbm, 333, rfl⟩
abbrev main_v169 : Ref sig .tc := ⟨.hbm, 334, rfl⟩
abbrev main_v170 : Ref sig .tc := ⟨.hbm, 335, rfl⟩
abbrev main_v171 : Ref sig .tc := ⟨.hbm, 336, rfl⟩
abbrev main_cst_28 : Ref sig .tc := ⟨.hbm, 337, rfl⟩
abbrev main_v172 : Ref sig .tc := ⟨.hbm, 338, rfl⟩
abbrev main_v173 : Ref sig .tc := ⟨.hbm, 339, rfl⟩
abbrev main_v174 : Ref sig .tc := ⟨.hbm, 340, rfl⟩
abbrev main_call10_v0 : Ref sig .tc := ⟨.hbm, 341, rfl⟩
abbrev main_call10_cst : Ref sig .tc := ⟨.hbm, 342, rfl⟩
abbrev main_call10_c : Ref sig .tc := ⟨.hbm, 343, rfl⟩
abbrev main_call10_v1_0 : Ref sig .tc := ⟨.hbm, 344, rfl⟩
abbrev main_v175 : Ref sig .tc := ⟨.hbm, 345, rfl⟩
abbrev main_call11_c : Ref sig .tc := ⟨.hbm, 346, rfl⟩
abbrev main_call11_v0 : Ref sig .tc := ⟨.hbm, 347, rfl⟩
abbrev main_call11_v1 : Ref sig .tc := ⟨.hbm, 348, rfl⟩
abbrev main_call11_c_0 : Ref sig .tc := ⟨.hbm, 349, rfl⟩
abbrev main_call11_v2 : Ref sig .tc := ⟨.hbm, 350, rfl⟩
abbrev main_call11_v3 : Ref sig .tc := ⟨.hbm, 351, rfl⟩
abbrev main_call11_v4 : Ref sig .tc := ⟨.hbm, 352, rfl⟩
abbrev main_call11_v5 : Ref sig .tc := ⟨.hbm, 353, rfl⟩
abbrev main_call11_c_1 : Ref sig .tc := ⟨.hbm, 354, rfl⟩
abbrev main_call11_c_2 : Ref sig .tc := ⟨.hbm, 355, rfl⟩
abbrev main_call11_v6 : Ref sig .tc := ⟨.hbm, 356, rfl⟩
abbrev main_call11_v7 : Ref sig .tc := ⟨.hbm, 357, rfl⟩
abbrev main_call11_v8 : Ref sig .tc := ⟨.hbm, 358, rfl⟩
abbrev main_call11_v9 : Ref sig .tc := ⟨.hbm, 359, rfl⟩
abbrev main_call11_v10 : Ref sig .tc := ⟨.hbm, 360, rfl⟩
abbrev main_call11_v11 : Ref sig .tc := ⟨.hbm, 361, rfl⟩
abbrev main_call11_c_3 : Ref sig .tc := ⟨.hbm, 362, rfl⟩
abbrev main_call11_v12 : Ref sig .tc := ⟨.hbm, 363, rfl⟩
abbrev main_call11_v13 : Ref sig .tc := ⟨.hbm, 364, rfl⟩
abbrev main_call11_v14 : Ref sig .tc := ⟨.hbm, 365, rfl⟩
abbrev main_call11_cst : Ref sig .tc := ⟨.hbm, 366, rfl⟩
abbrev main_call11_v15 : Ref sig .tc := ⟨.hbm, 367, rfl⟩
abbrev main_v176 : Ref sig .tc := ⟨.hbm, 368, rfl⟩
abbrev main_v177 : Ref sig .tc := ⟨.hbm, 369, rfl⟩
abbrev main_v178 : Ref sig .tc := ⟨.hbm, 370, rfl⟩
abbrev main_v179 : Ref sig .tc := ⟨.hbm, 371, rfl⟩
abbrev main_v180 : Ref sig .tc := ⟨.hbm, 372, rfl⟩
abbrev main_v181 : Ref sig .tc := ⟨.hbm, 373, rfl⟩
abbrev main_cst_29 : Ref sig .tc := ⟨.hbm, 374, rfl⟩
abbrev main_v182 : Ref sig .tc := ⟨.hbm, 375, rfl⟩
abbrev main_cst_30 : Ref sig .tc := ⟨.hbm, 376, rfl⟩
abbrev main_v183 : Ref sig .tc := ⟨.hbm, 377, rfl⟩
abbrev main_v184 : Ref sig .tc := ⟨.hbm, 378, rfl⟩
abbrev main_v185 : Ref sig .tc := ⟨.hbm, 379, rfl⟩
abbrev main_v186 : Ref sig .tc := ⟨.hbm, 380, rfl⟩
abbrev main_v187 : Ref sig .tc := ⟨.hbm, 381, rfl⟩
abbrev main_v188 : Ref sig .tc := ⟨.hbm, 382, rfl⟩
abbrev main_v189 : Ref sig .tc := ⟨.hbm, 383, rfl⟩
abbrev main_v190 : Ref sig .tc := ⟨.hbm, 384, rfl⟩
abbrev main_v191 : Ref sig .tc := ⟨.hbm, 385, rfl⟩
abbrev main_cst_31 : Ref sig .tc := ⟨.hbm, 386, rfl⟩
abbrev main_v192 : Ref sig .tc := ⟨.hbm, 387, rfl⟩
abbrev main_v193 : Ref sig .tc := ⟨.hbm, 388, rfl⟩
abbrev main_v194 : Ref sig .tc := ⟨.hbm, 389, rfl⟩
abbrev main_cst_32 : Ref sig .tc := ⟨.hbm, 390, rfl⟩
abbrev main_v195 : Ref sig .tc := ⟨.hbm, 391, rfl⟩
abbrev main_v196 : Ref sig .tc := ⟨.hbm, 392, rfl⟩
abbrev main_v197 : Ref sig .tc := ⟨.hbm, 393, rfl⟩
abbrev main_v198 : Ref sig .tc := ⟨.hbm, 394, rfl⟩
abbrev main_v199 : Ref sig .tc := ⟨.hbm, 395, rfl⟩
abbrev main_v200 : Ref sig .tc := ⟨.hbm, 396, rfl⟩
abbrev main_v201 : Ref sig .tc := ⟨.hbm, 397, rfl⟩
abbrev main_cst_33 : Ref sig .tc := ⟨.hbm, 398, rfl⟩
abbrev main_v202 : Ref sig .tc := ⟨.hbm, 399, rfl⟩
abbrev main_v203 : Ref sig .tc := ⟨.hbm, 400, rfl⟩
abbrev main_v204 : Ref sig .tc := ⟨.hbm, 401, rfl⟩
abbrev main_call12_v0 : Ref sig .tc := ⟨.hbm, 402, rfl⟩
abbrev main_call12_cst : Ref sig .tc := ⟨.hbm, 403, rfl⟩
abbrev main_call12_c : Ref sig .tc := ⟨.hbm, 404, rfl⟩
abbrev main_call12_v1_0 : Ref sig .tc := ⟨.hbm, 405, rfl⟩
abbrev main_v205 : Ref sig .tc := ⟨.hbm, 406, rfl⟩
abbrev main_call13_c : Ref sig .tc := ⟨.hbm, 407, rfl⟩
abbrev main_call13_v0 : Ref sig .tc := ⟨.hbm, 408, rfl⟩
abbrev main_call13_v1 : Ref sig .tc := ⟨.hbm, 409, rfl⟩
abbrev main_call13_c_0 : Ref sig .tc := ⟨.hbm, 410, rfl⟩
abbrev main_call13_v2 : Ref sig .tc := ⟨.hbm, 411, rfl⟩
abbrev main_call13_v3 : Ref sig .tc := ⟨.hbm, 412, rfl⟩
abbrev main_call13_v4 : Ref sig .tc := ⟨.hbm, 413, rfl⟩
abbrev main_call13_v5 : Ref sig .tc := ⟨.hbm, 414, rfl⟩
abbrev main_call13_c_1 : Ref sig .tc := ⟨.hbm, 415, rfl⟩
abbrev main_call13_c_2 : Ref sig .tc := ⟨.hbm, 416, rfl⟩
abbrev main_call13_v6 : Ref sig .tc := ⟨.hbm, 417, rfl⟩
abbrev main_call13_v7 : Ref sig .tc := ⟨.hbm, 418, rfl⟩
abbrev main_call13_v8 : Ref sig .tc := ⟨.hbm, 419, rfl⟩
abbrev main_call13_v9 : Ref sig .tc := ⟨.hbm, 420, rfl⟩
abbrev main_call13_v10 : Ref sig .tc := ⟨.hbm, 421, rfl⟩
abbrev main_call13_v11 : Ref sig .tc := ⟨.hbm, 422, rfl⟩
abbrev main_call13_c_3 : Ref sig .tc := ⟨.hbm, 423, rfl⟩
abbrev main_call13_v12 : Ref sig .tc := ⟨.hbm, 424, rfl⟩
abbrev main_call13_v13 : Ref sig .tc := ⟨.hbm, 425, rfl⟩
abbrev main_call13_v14 : Ref sig .tc := ⟨.hbm, 426, rfl⟩
abbrev main_call13_cst : Ref sig .tc := ⟨.hbm, 427, rfl⟩
abbrev main_call13_v15 : Ref sig .tc := ⟨.hbm, 428, rfl⟩
abbrev main_v206 : Ref sig .tc := ⟨.hbm, 429, rfl⟩
abbrev main_v207 : Ref sig .tc := ⟨.hbm, 430, rfl⟩
abbrev main_v208 : Ref sig .tc := ⟨.hbm, 431, rfl⟩
abbrev main_v209 : Ref sig .tc := ⟨.hbm, 432, rfl⟩
abbrev main_v210 : Ref sig .tc := ⟨.hbm, 433, rfl⟩
abbrev main_v211 : Ref sig .tc := ⟨.hbm, 434, rfl⟩
abbrev main_cst_34 : Ref sig .tc := ⟨.hbm, 435, rfl⟩
abbrev main_v212 : Ref sig .tc := ⟨.hbm, 436, rfl⟩
abbrev main_cst_35 : Ref sig .tc := ⟨.hbm, 437, rfl⟩
abbrev main_v213 : Ref sig .tc := ⟨.hbm, 438, rfl⟩
abbrev main_v214 : Ref sig .tc := ⟨.hbm, 439, rfl⟩
abbrev main_v215 : Ref sig .tc := ⟨.hbm, 440, rfl⟩
abbrev main_v216 : Ref sig .tc := ⟨.hbm, 441, rfl⟩
abbrev main_v217 : Ref sig .tc := ⟨.hbm, 442, rfl⟩
abbrev main_v218 : Ref sig .tc := ⟨.hbm, 443, rfl⟩
abbrev main_v219 : Ref sig .tc := ⟨.hbm, 444, rfl⟩
abbrev main_v220 : Ref sig .tc := ⟨.hbm, 445, rfl⟩
abbrev main_v221 : Ref sig .tc := ⟨.hbm, 446, rfl⟩
abbrev main_cst_36 : Ref sig .tc := ⟨.hbm, 447, rfl⟩
abbrev main_v222 : Ref sig .tc := ⟨.hbm, 448, rfl⟩
abbrev main_v223 : Ref sig .tc := ⟨.hbm, 449, rfl⟩
abbrev main_v224 : Ref sig .tc := ⟨.hbm, 450, rfl⟩
abbrev main_cst_37 : Ref sig .tc := ⟨.hbm, 451, rfl⟩
abbrev main_v225 : Ref sig .tc := ⟨.hbm, 452, rfl⟩
abbrev main_v226 : Ref sig .tc := ⟨.hbm, 453, rfl⟩
abbrev main_v227 : Ref sig .tc := ⟨.hbm, 454, rfl⟩
abbrev main_v228 : Ref sig .tc := ⟨.hbm, 455, rfl⟩
abbrev main_v229 : Ref sig .tc := ⟨.hbm, 456, rfl⟩
abbrev main_v230 : Ref sig .tc := ⟨.hbm, 457, rfl⟩
abbrev main_v231 : Ref sig .tc := ⟨.hbm, 458, rfl⟩
abbrev main_cst_38 : Ref sig .tc := ⟨.hbm, 459, rfl⟩
abbrev main_v232 : Ref sig .tc := ⟨.hbm, 460, rfl⟩
abbrev main_v233 : Ref sig .tc := ⟨.hbm, 461, rfl⟩
abbrev main_v234 : Ref sig .tc := ⟨.hbm, 462, rfl⟩
abbrev main_call14_v0 : Ref sig .tc := ⟨.hbm, 463, rfl⟩
abbrev main_call14_cst : Ref sig .tc := ⟨.hbm, 464, rfl⟩
abbrev main_call14_c : Ref sig .tc := ⟨.hbm, 465, rfl⟩
abbrev main_call14_v1_0 : Ref sig .tc := ⟨.hbm, 466, rfl⟩
abbrev main_v235 : Ref sig .tc := ⟨.hbm, 467, rfl⟩
abbrev main_call15_c : Ref sig .tc := ⟨.hbm, 468, rfl⟩
abbrev main_call15_v0 : Ref sig .tc := ⟨.hbm, 469, rfl⟩
abbrev main_call15_v1 : Ref sig .tc := ⟨.hbm, 470, rfl⟩
abbrev main_call15_c_0 : Ref sig .tc := ⟨.hbm, 471, rfl⟩
abbrev main_call15_v2 : Ref sig .tc := ⟨.hbm, 472, rfl⟩
abbrev main_call15_v3 : Ref sig .tc := ⟨.hbm, 473, rfl⟩
abbrev main_call15_v4 : Ref sig .tc := ⟨.hbm, 474, rfl⟩
abbrev main_call15_v5 : Ref sig .tc := ⟨.hbm, 475, rfl⟩
abbrev main_call15_c_1 : Ref sig .tc := ⟨.hbm, 476, rfl⟩
abbrev main_call15_c_2 : Ref sig .tc := ⟨.hbm, 477, rfl⟩
abbrev main_call15_v6 : Ref sig .tc := ⟨.hbm, 478, rfl⟩
abbrev main_call15_v7 : Ref sig .tc := ⟨.hbm, 479, rfl⟩
abbrev main_call15_v8 : Ref sig .tc := ⟨.hbm, 480, rfl⟩
abbrev main_call15_v9 : Ref sig .tc := ⟨.hbm, 481, rfl⟩
abbrev main_call15_v10 : Ref sig .tc := ⟨.hbm, 482, rfl⟩
abbrev main_call15_v11 : Ref sig .tc := ⟨.hbm, 483, rfl⟩
abbrev main_call15_c_3 : Ref sig .tc := ⟨.hbm, 484, rfl⟩
abbrev main_call15_v12 : Ref sig .tc := ⟨.hbm, 485, rfl⟩
abbrev main_call15_v13 : Ref sig .tc := ⟨.hbm, 486, rfl⟩
abbrev main_call15_v14 : Ref sig .tc := ⟨.hbm, 487, rfl⟩
abbrev main_call15_cst : Ref sig .tc := ⟨.hbm, 488, rfl⟩
abbrev main_call15_v15 : Ref sig .tc := ⟨.hbm, 489, rfl⟩
abbrev main_v236 : Ref sig .tc := ⟨.hbm, 490, rfl⟩
abbrev main_v237 : Ref sig .tc := ⟨.hbm, 491, rfl⟩
abbrev main_v238 : Ref sig .tc := ⟨.hbm, 492, rfl⟩
abbrev main_v239 : Ref sig .tc := ⟨.hbm, 493, rfl⟩
abbrev main_v240 : Ref sig .tc := ⟨.hbm, 494, rfl⟩
abbrev main_v241 : Ref sig .tc := ⟨.hbm, 495, rfl⟩
abbrev main_cst_39 : Ref sig .tc := ⟨.hbm, 496, rfl⟩
abbrev main_v242 : Ref sig .tc := ⟨.hbm, 497, rfl⟩
abbrev main_cst_40 : Ref sig .tc := ⟨.hbm, 498, rfl⟩
abbrev main_v243 : Ref sig .tc := ⟨.hbm, 499, rfl⟩
abbrev main_v244 : Ref sig .tc := ⟨.hbm, 500, rfl⟩
abbrev main_v245 : Ref sig .tc := ⟨.hbm, 501, rfl⟩
abbrev main_v246 : Ref sig .tc := ⟨.hbm, 502, rfl⟩
abbrev main_v247 : Ref sig .tc := ⟨.hbm, 503, rfl⟩
abbrev main_v248 : Ref sig .tc := ⟨.hbm, 504, rfl⟩
abbrev main_v249 : Ref sig .tc := ⟨.hbm, 505, rfl⟩
abbrev main_v250 : Ref sig .tc := ⟨.hbm, 506, rfl⟩
abbrev main_v251 : Ref sig .tc := ⟨.hbm, 507, rfl⟩
abbrev main_v252 : Ref sig .tc := ⟨.hbm, 508, rfl⟩
abbrev main_v253 : Ref sig .tc := ⟨.hbm, 509, rfl⟩
abbrev main_v254 : Ref sig .tc := ⟨.hbm, 510, rfl⟩
abbrev main_v255 : Ref sig .tc := ⟨.hbm, 511, rfl⟩
abbrev main_cst_41 : Ref sig .tc := ⟨.hbm, 512, rfl⟩
abbrev main_v256 : Ref sig .tc := ⟨.hbm, 513, rfl⟩

abbrev nD : Nat := 1
abbrev τ : Topo := Topo.v7x

variable {F : FTy → Type} [FloatOps F]
-- ==== Proof.KerOps.lean ====
/- The kernel body at one grid point as functions of its blocks: one codebook's step as a function of the residual, and
   the residual, the summed codewords and the summed loss as sequences over the codebooks. -/
module

public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- Row block `k` of a stack of eight. -/
def slab {α : Type} {a b : ℕ} (X : (⟨3, ![8, a, b]⟩ : Shape).Idx → α) (k : ℕ) : (⟨3, ![1, a, b]⟩ : Shape).Idx → α :=
  fun j => X (ix3 ⟨k % 8, Nat.mod_lt _ (by decide)⟩ (j 1) (j 2))

theorem ld_slab {e : EltTy} {a b : ℕ} (X : (⟨3, ![8, a, b]⟩ : Shape).Idx → Elt F e) (k : ℕ)
    (inb : ∀ i, (![k, 0, 0] : Fin 3 → ℕ) i + (![1, a, b] : Fin 3 → ℕ) i ≤ (⟨3, ![8, a, b]⟩ : Shape).size i) :
    View.ld (Val := Elt F) (e' := e) X (Rect.unit (s := ⟨3, ![8, a, b]⟩) ![k, 0, 0] ![1, a, b] inb) = slab X k := by
  have hk : k + 1 ≤ 8 := inb 0
  funext j
  refine congrArg X ?_
  funext i
  have h0 : (j 0 : ℕ) < 1 := (j 0).isLt
  match i with
  | ⟨0, _⟩ => exact Fin.ext (show k + 1 * (j 0 : ℕ) = k % 8 by omega)
  | ⟨1, _⟩ => exact Fin.ext (show 0 + 1 * (j 1 : ℕ) = (j 1 : ℕ) by omega)
  | ⟨2, _⟩ => exact Fin.ext (show 0 + 1 * (j 2 : ℕ) = (j 2 : ℕ) by omega)

/-- The lane numbers. -/
abbrev lanes : IVec S256x2048 32 := iota .tc S256x2048 32 [1] iota_S256x2048_d1_w32

/-- One rotation added: every lane with the lane `128 - n` above it. -/
def kHalf (n : BitVec 32) (s : FVec F S256x128 .f32) : FVec F S256x128 .f32 :=
  addf s (dynamicRotate 1 n none s rotates_S256x128_d1)

/-- The first part of the row sum: every lane with the fifteen lanes 8, 16, … above it. -/
def kRoll (s : FVec F S256x128 .f32) : FVec F S256x128 .f32 :=
  addf (addf (addf (addf (addf (addf (addf (addf (addf (addf (addf (addf (addf (addf (kHalf 120#32 s) (dynamicRotate 1 112#32 none s rotates_S256x128_d1))
    (dynamicRotate 1 104#32 none s rotates_S256x128_d1)) (dynamicRotate 1 96#32 none s rotates_S256x128_d1))
    (dynamicRotate 1 88#32 none s rotates_S256x128_d1)) (dynamicRotate 1 80#32 none s rotates_S256x128_d1))
    (dynamicRotate 1 72#32 none s rotates_S256x128_d1)) (dynamicRotate 1 64#32 none s rotates_S256x128_d1))
    (dynamicRotate 1 56#32 none s rotates_S256x128_d1)) (dynamicRotate 1 48#32 none s rotates_S256x128_d1))
    (dynamicRotate 1 40#32 none s rotates_S256x128_d1)) (dynamicRotate 1 32#32 none s rotates_S256x128_d1))
    (dynamicRotate 1 24#32 none s rotates_S256x128_d1)) (dynamicRotate 1 16#32 none s rotates_S256x128_d1))
    (dynamicRotate 1 8#32 none s rotates_S256x128_d1)

/-- The rows' sums of squares. -/
def kSq (r : FVec F S256x128 .f32) : FVec F S256x1 .f32 :=
  extractStridedSlice S256x1 ![0, 0] (kHalf 127#32 (kHalf 126#32 (kHalf 124#32 (kRoll (mulf r r)))))
    slices_S256x128_o0_0_S256x1

/-- The distances of a tile's residuals to a codebook's codewords. -/
def kDist (r : FVec F S256x128 .f32) (cb : FVec F S1x128x2048 .f32) (e2 : FVec F S1x1x2048 .f32) : FVec F S256x2048 .f32 :=
  addf
    (addf (broadcastTo S256x2048 (kSq r) broadcasts_S256x1_S256x2048)
      (broadcastTo S256x2048 (shapeCast S1x2048 e2 shapeCasts_S1x1x2048_S1x2048) broadcasts_S1x2048_S256x2048))
    (matmul dot_S256x128_S128x2048_S256x2048_1_0_0_1_n_n none r
      (shapeCast S128x2048 cb shapeCasts_S1x128x2048_S128x2048) (constant S256x2048 .f32 0x00000000#32))

/-- The first lane at the row's least distance. -/
def kCode (D : FVec F S256x2048 .f32) : IVec S256 32 :=
  multiReductionI .minsi [1] S256
    (select (cmpf .oeq D
        (broadcastTo S256x2048
          (shapeCast S256x1 (multiReduction .minimumf [1] S256 D 0x7F800000#32 reduces_S256x2048_S256 (.inl rfl) rfl)
            shapeCasts_S256_S256x1)
          broadcasts_S256x1_S256x2048))
      lanes (broadcast S256x2048 2048#32))
    2147483647#32 reduces_S256x2048_S256 rfl

/-- The codes' one-hot rows. -/
def kHot (c : IVec S256 32) : FVec F S256x2048 .bf16 :=
  truncf .bf16
    (sitofp .f32
      (extui 32
        (cmpi .eq lanes
          (broadcastTo S256x2048 (shapeCast S256x1 c shapeCasts_S256_S256x1) broadcasts_S256x1_S256x2048))
        natLt_1_32))
    bitsLt_bf16_f32

/-- One-hot rows times one of the three parts of a codebook. -/
def kSel (oh : FVec F S256x2048 .bf16) (e : FVec F S1x2048x128 .bf16) : FVec F S256x128 .f32 :=
  matmul dot_S256x2048_S2048x128_S256x128_1_0_0_1_n_n none oh
    (shapeCast S2048x128 e shapeCasts_S1x2048x128_S2048x128) (constant S256x128 .f32 0x00000000#32)

/-- The selected codewords less the residuals. -/
def kDiff (r : FVec F S256x128 .f32) (c : IVec S256 32) (h m l : FVec F S1x2048x128 .bf16) : FVec F S256x128 .f32 :=
  subf (addf (addf (kSel (kHot c) h) (kSel (kHot c) m)) (kSel (kHot c) l)) r

/-- A tile's sum of squares. -/
def kLoss (d : FVec F S256x128 .f32) : F .f32 :=
  extractAt ![0, 0, 0]
    (shapeCast S1x1x1
      (multiReduction .add [1, 2] S1 (shapeCast S1x256x128 (mulf d d) shapeCasts_S256x128_S1x256x128) 0x00000000#32
        reduces_S1x256x128_S1 (.inl rfl) rfl)
      shapeCasts_S1_S1x1x1)
    inpos_S1x1x1_p0_0_0

section Steps

variable (x0 : FVec F S256x768 .f32) (x1 : FVec F S768x128 .f32) (x2 : FVec F S1x128 .f32) (x3 : FVec F S8x128x2048 .f32)
  (x4 x5 x6 : FVec F S8x2048x128 .bf16) (x7 : FVec F S8x1x2048 .f32)

/-- The codes codebook `i` gives residual `r`. -/
abbrev kC (r : FVec F S256x128 .f32) (i : ℕ) : IVec S256 32 := kCode (kDist r (slab x3 i) (slab x7 i))

/-- Their codewords less the residual. -/
abbrev kD (r : FVec F S256x128 .f32) (i : ℕ) : FVec F S256x128 .f32 :=
  kDiff r (kC x3 x7 r i) (slab x4 i) (slab x5 i) (slab x6 i)

/-- The residual before codebook `i`. -/
def kR : ℕ → FVec F S256x128 .f32
  | 0 => k0_pay3 x0 x1 x2
  | i + 1 => subf (kR i) (addf (kR i) (kD x3 x4 x5 x6 x7 (kR i) i))

/-- The summed codewords before codebook `i`. -/
def kS : ℕ → FVec F S256x128 .f32
  | 0 => k0_pay4
  | i + 1 => addf (kS i) (addf (kR x0 x1 x2 x3 x4 x5 x6 x7 i) (kD x3 x4 x5 x6 x7 (kR x0 x1 x2 x3 x4 x5 x6 x7 i) i))

/-- The tile's summed loss before codebook `i`. -/
def kL : ℕ → F .f32
  | 0 => Scalar.ofBits .f32 0x00000000#32
  | i + 1 => Scalar.addf (kL i) (kLoss (kD x3 x4 x5 x6 x7 (kR x0 x1 x2 x3 x4 x5 x6 x7 i) i))

theorem kR_next (i : ℕ) : subf (kR x0 x1 x2 x3 x4 x5 x6 x7 i)
    (addf (kR x0 x1 x2 x3 x4 x5 x6 x7 i) (kDiff (kR x0 x1 x2 x3 x4 x5 x6 x7 i)
      (kCode (kDist (kR x0 x1 x2 x3 x4 x5 x6 x7 i) (slab x3 i) (slab x7 i))) (slab x4 i) (slab x5 i) (slab x6 i)))
    = kR x0 x1 x2 x3 x4 x5 x6 x7 (i + 1) := rfl

theorem kS_next (i : ℕ) : addf (kS x0 x1 x2 x3 x4 x5 x6 x7 i)
    (addf (kR x0 x1 x2 x3 x4 x5 x6 x7 i) (kDiff (kR x0 x1 x2 x3 x4 x5 x6 x7 i)
      (kCode (kDist (kR x0 x1 x2 x3 x4 x5 x6 x7 i) (slab x3 i) (slab x7 i))) (slab x4 i) (slab x5 i) (slab x6 i)))
    = kS x0 x1 x2 x3 x4 x5 x6 x7 (i + 1) := rfl

theorem kL_next (i : ℕ) : Scalar.addf (kL x0 x1 x2 x3 x4 x5 x6 x7 i)
    (kLoss (kDiff (kR x0 x1 x2 x3 x4 x5 x6 x7 i)
      (kCode (kDist (kR x0 x1 x2 x3 x4 x5 x6 x7 i) (slab x3 i) (slab x7 i))) (slab x4 i) (slab x5 i) (slab x6 i)))
    = kL x0 x1 x2 x3 x4 x5 x6 x7 (i + 1) := rfl

end Steps

/-- The tile's output rows. -/
def kOut (q : FVec F S256x128 .f32) (w : FVec F S128x768 .f32) (b : FVec F S1x768 .f32) : FVec F S256x768 .f32 :=
  addf (matmul dot_S256x128_S128x768_S256x768_1_0_0_1_n_n none q w (constant S256x768 .f32 0x00000000#32))
    (broadcastTo S256x768 b broadcasts_S1x768_S256x768)

end Cert.KernelIdeal.Hand
-- ==== Proof.KerPoint.lean ====
/- What the kernel body leaves in its three outputs at a grid point, in the sequences of `KerOps`. -/
module

public import proofs.«01_k».proof.Proof.KerOps
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (c : Dev nD) (t : Fin cfg0.N)

/-- The residuals of point `t`'s tokens before codebook `i`. -/
abbrev rAt (i : ℕ) : FVec F S256x128 .f32 :=
  kR (iblk m c 0 t) (iblk m c 1 t) (iblk m c 2 t) (iblk m c 3 t) (iblk m c 4 t) (iblk m c 5 t) (iblk m c 6 t) (iblk m c 7 t) i

/-- Their summed codewords before codebook `i`. -/
abbrev sAt (i : ℕ) : FVec F S256x128 .f32 :=
  kS (iblk m c 0 t) (iblk m c 1 t) (iblk m c 2 t) (iblk m c 3 t) (iblk m c 4 t) (iblk m c 5 t) (iblk m c 6 t) (iblk m c 7 t) i

/-- The point's summed loss before codebook `i`. -/
abbrev lAt (i : ℕ) : F .f32 :=
  kL (iblk m c 0 t) (iblk m c 1 t) (iblk m c 2 t) (iblk m c 3 t) (iblk m c 4 t) (iblk m c 5 t) (iblk m c 6 t) (iblk m c 7 t) i

/-- The codes codebook `i` gives them. -/
abbrev cAt (i : ℕ) : IVec S256 32 := kC (iblk m c 3 t) (iblk m c 7 t) (rAt m c t i) i

theorem rAt_zero : k0_pay3 (iblk m c 0 t) (iblk m c 1 t) (iblk m c 2 t) = rAt m c t 0 := rfl
theorem sAt_zero : k0_pay4 = sAt m c t 0 := rfl
theorem lAt_zero : Scalar.ofBits .f32 0x00000000#32 = lAt m c t 0 := rfl

/-- Row `i` of the codes block, as it is stored. -/
theorem code_row (i : ℕ) (y : S8x256.Idx) (x : S1x256.Idx) (h0 : (y 0).val = i) (h1 : (x 1).val = (y 1).val) :
    shapeCast S1x256 (kCode (kDist (rAt m c t i) (slab (iblk m c 3 t) i) (slab (iblk m c 7 t) i))) shapeCasts_S256_S1x256 x
      = cAt m c t (y 0) (ix1 (y 1)) := by
  subst h0
  rw [show (ix1 (y 1) : S256.Idx) = ix1 (x 1) from congrArg _ (Fin.ext h1.symm)]
  pointwise

set_option maxHeartbeats 2000000 in
/-- The first point's outputs: the loss starts from zero. -/
theorem outs_first (h0 : t.val % 16 = 0) :
    (∀ y : S8x256.Idx, (outsAt0 m c t.val t.isLt).1 y = cAt m c t (y 0) (ix1 (y 1)))
      ∧ (outsAt0 m c t.val t.isLt).2.1 = kOut (sAt m c t 8) (iblk m c 8 t) (iblk m c 9 t)
      ∧ (outsAt0 m c t.val t.isLt).2.2
        = addf (broadcast S1x1 (Scalar.ofBits .f32 0x00000000#32)) (broadcast S1x1 (lAt m c t 8)) := by
  rw [outsAt0_A m c t h0]
  frame_out
  simp (config := {index := false}) only [
      ld_slab, rAt_zero m c t, sAt_zero m c t, lAt_zero m c t, kR_next, kS_next, kL_next, Nat.reduceAdd,
      shapeCast_self, ← kRoll.eq_1, ← kHalf.eq_1, ← kSq.eq_1, ← kDist.eq_1, ← kCode.eq_1, ← kHot.eq_1, ← kSel.eq_1, ←
      kDiff.eq_1, ← kLoss.eq_1, ← kOut.eq_1, k0_pay1, k0_pay2, k0_pay5, k0_pay6, k0_pay7, k0_pay8, k0_pay9, k0_pay10,
      k0_pay11, k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31, k0_pay32,
      k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65,
      k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94]
  refine ⟨fun y => ?_, by first | exact trivial | rfl, by first | exact trivial | rfl⟩
  canon_tiles x h
  all_goals exact code_row m c t _ y x (by omega) h1.symm

set_option maxHeartbeats 2000000 in
/-- A later point's outputs: the loss goes on from the point before. -/
theorem outs_later (h0 : ¬t.val % 16 = 0) :
    (∀ y : S8x256.Idx, (outsAt0 m c t.val t.isLt).1 y = cAt m c t (y 0) (ix1 (y 1)))
      ∧ (outsAt0 m c t.val t.isLt).2.1 = kOut (sAt m c t 8) (iblk m c 8 t) (iblk m c 9 t)
      ∧ (outsAt0 m c t.val t.isLt).2.2
        = addf (outsAt0 m c (t.val - 1) (Nat.lt_of_le_of_lt (Nat.sub_le _ _) t.isLt)).2.2 (broadcast S1x1 (lAt m c t 8)) := by
  rw [outsAt0_B m c t h0]
  frame_out
  simp (config := {index := false}) only [
      ld_slab, rAt_zero m c t, sAt_zero m c t, lAt_zero m c t, kR_next, kS_next, kL_next, Nat.reduceAdd,
      shapeCast_self, ← kRoll.eq_1, ← kHalf.eq_1, ← kSq.eq_1, ← kDist.eq_1, ← kCode.eq_1, ← kHot.eq_1, ← kSel.eq_1, ←
      kDiff.eq_1, ← kLoss.eq_1, ← kOut.eq_1, k0_pay1, k0_pay2, k0_pay5, k0_pay6, k0_pay7, k0_pay8, k0_pay9, k0_pay10,
      k0_pay11, k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31, k0_pay32,
      k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65,
      k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94]
  refine ⟨fun y => ?_, by first | exact trivial | rfl, by first | exact trivial | rfl⟩
  canon_tiles x h
  all_goals exact code_row m c t _ y x (by omega) h1.symm

end Cert.KernelIdeal.Hand
-- ==== Proof.KerBlocks.lean ====
/- What the kernel's blocks hold, read at an element of the arguments. -/
module

public import proofs.«01_k».proof.Proof.KerPoint
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- The arguments' contents at launch, by number. -/
abbrev arg0 : FVec Ideal S4x768x1024 .f32 := m ((c : Thread nD τ).loc main_arg0)
@[inherit_doc arg0]
abbrev arg1 : FVec Ideal S128x768 .f32 := m ((c : Thread nD τ).loc main_arg1)
@[inherit_doc arg0]
abbrev arg2 : FVec Ideal S128 .f32 := m ((c : Thread nD τ).loc main_arg2)
@[inherit_doc arg0]
abbrev arg3 : FVec Ideal S768x128 .f32 := m ((c : Thread nD τ).loc main_arg3)
@[inherit_doc arg0]
abbrev arg4 : FVec Ideal S768 .f32 := m ((c : Thread nD τ).loc main_arg4)
@[inherit_doc arg0]
abbrev arg5 : FVec Ideal S8x2048x128 .f32 := m ((c : Thread nD τ).loc main_arg5)

theorem point_lt : t.val < 16 := lt_of_lt_of_eq t.isLt N_0

/-- The batch of token `n` of point `t`. -/
def bat (n : Fin 256) : Fin 4 := ⟨(t.val * 256 + n.val) / 1024, by have := point_lt t; have := n.isLt; omega⟩

/-- Its place in the batch. -/
def pos (n : Fin 256) : Fin 1024 := ⟨(t.val * 256 + n.val) % 1024, Nat.mod_lt _ (by decide)⟩

theorem idx : ∀ t : Fin cfg0.N,
    win0_0.index t = ![t.val, 0] ∧ win0_1.index t = ![0, 0] ∧ win0_2.index t = ![0, 0] ∧ win0_3.index t = ![0, 0, 0]
      ∧ win0_4.index t = ![0, 0, 0] ∧ win0_5.index t = ![0, 0, 0] ∧ win0_6.index t = ![0, 0, 0]
      ∧ win0_7.index t = ![0, 0, 0] ∧ win0_8.index t = ![0, 0] ∧ win0_9.index t = ![0, 0]
      ∧ win0_10.index t = ![0, t.val] ∧ win0_11.index t = ![t.val, 0] ∧ win0_12.index t = ![0, 0] :=
  (by decide +kernel : ∀ t : Fin grid0.N, _)

/-! The arrays the region starts from, as the host line leaves them. -/

theorem V_v1 : V m c main_v1 = shapeCast S4096x768 (transpose S4x1024x768 [0, 2, 1] (arg0 m c) transposes_S4x768x1024_S4x1024x768_0_2_1) shapeCasts_S4x1024x768_S4096x768 := by
  simp only [V, V0, hostOps0, List.flatten_cons, List.flatten_nil, List.append_nil, StableHlo.after_cons, StableHlo.after_nil]
  after_results_simp
  rfl

theorem V_v15 : V m c main_v15 = transpose S768x128 [1, 0] (arg1 m c) transposes_S128x768_S768x128_1_0 := by
  simp only [V, V0, hostOps0, List.flatten_cons, List.flatten_nil, List.append_nil, StableHlo.after_cons, StableHlo.after_nil]
  after_results_simp

theorem V_v16 : V m c main_v16 = shapeCast S1x128 (arg2 m c) shapeCasts_S128_S1x128 := by
  simp only [V, V0, hostOps0, List.flatten_cons, List.flatten_nil, List.append_nil, StableHlo.after_cons, StableHlo.after_nil]
  after_results_simp
  rfl

theorem V_v4 : V m c main_v4 = mulf (broadcastInDim S8x128x2048 ![] bcast_S_S8x128x2048 (constant (F := Ideal) S_ .f32 0xC0000000#32)) (transpose S8x128x2048 [0, 2, 1] (arg5 m c) transposes_S8x2048x128_S8x128x2048_0_2_1) := by
  simp only [V, V0, hostOps0, List.flatten_cons, List.flatten_nil, List.append_nil, StableHlo.after_cons, StableHlo.after_nil]
  after_results_simp

theorem V_v5 : V m c main_v5 = truncf .bf16 (arg5 m c) bitsLt_bf16_f32 := by
  simp only [V, V0, hostOps0, List.flatten_cons, List.flatten_nil, List.append_nil, StableHlo.after_cons, StableHlo.after_nil]
  after_results_simp

theorem V_v8 : V m c main_v8 = truncf .bf16 (subf (arg5 m c) (extf .f32 (truncf .bf16 (arg5 m c) bitsLt_bf16_f32) bitsLt_bf16_f32)) bitsLt_bf16_f32 := by
  simp only [V, V0, hostOps0, List.flatten_cons, List.flatten_nil, List.append_nil, StableHlo.after_cons, StableHlo.after_nil]
  after_results_simp

theorem V_v11 : V m c main_v11 = truncf .bf16 (subf (subf (arg5 m c) (extf .f32 (truncf .bf16 (arg5 m c) bitsLt_bf16_f32) bitsLt_bf16_f32)) (extf .f32 (truncf .bf16 (subf (arg5 m c) (extf .f32 (truncf .bf16 (arg5 m c) bitsLt_bf16_f32) bitsLt_bf16_f32)) bitsLt_bf16_f32) bitsLt_bf16_f32)) bitsLt_bf16_f32 := by
  simp only [V, V0, hostOps0, List.flatten_cons, List.flatten_nil, List.append_nil, StableHlo.after_cons, StableHlo.after_nil]
  after_results_simp

theorem V_v14 : V m c main_v14 = broadcastInDim S8x1x2048 ![0, 2] bcast_S8x2048_S8x1x2048_0_2 (Host.reduceAdd (mulf (arg5 m c) (arg5 m c)) (constant (F := Ideal) S_ .f32 0x00000000#32) reducesTo_S8x2048x128_S8x2048_d2 h_S_) := by
  simp only [V, V0, hostOps0, List.flatten_cons, List.flatten_nil, List.append_nil, StableHlo.after_cons, StableHlo.after_nil]
  after_results_simp

theorem V_v17 : V m c main_v17 = transpose S128x768 [1, 0] (arg3 m c) transposes_S768x128_S128x768_1_0 := by
  simp only [V, V0, hostOps0, List.flatten_cons, List.flatten_nil, List.append_nil, StableHlo.after_cons, StableHlo.after_nil]
  after_results_simp

theorem V_v18 : V m c main_v18 = shapeCast S1x768 (arg4 m c) shapeCasts_S768_S1x768 := by
  simp only [V, V0, hostOps0, List.flatten_cons, List.flatten_nil, List.append_nil, StableHlo.after_cons, StableHlo.after_nil]
  after_results_simp
  rfl

/-! Each block at an element. -/

theorem blk0 (n : Fin 256) (k : Fin 768) : (iblk m c 0 t : FVec Ideal S256x768 .f32) (ix2 n k) = arg0 m c (ix3 (bat t n) k (pos t n)) := by
  blk_simp [iblk, idx t]
  rw [V_v1]
  pointwise
  blk_ext [iblk, idx t, bat, pos]

theorem blk1 (k : Fin 768) (j : Fin 128) : (iblk m c 1 t : FVec Ideal S768x128 .f32) (ix2 k j) = arg1 m c (ix2 j k) := by
  blk_simp [iblk, idx t]
  rw [V_v15]
  pointwise
  blk_ext [iblk, idx t, bat, pos]

theorem blk2 (j : Fin 128) : (iblk m c 2 t : FVec Ideal S1x128 .f32) (ix2 0 j) = arg2 m c (ix1 j) := by
  blk_simp [iblk, idx t]
  rw [V_v16]
  pointwise
  blk_ext [iblk, idx t, bat, pos]

theorem blk3 (i : Fin 8) (k : Fin 2048) (j : Fin 128) : (iblk m c 3 t : FVec Ideal S8x128x2048 .f32) (ix3 i j k) = Ideal.ofBits .f32 0xC0000000#32 * arg5 m c (ix3 i k j) := by
  blk_simp [iblk, idx t]
  rw [V_v4]
  pointwise
  blk_point [iblk, idx t, bat, pos]

theorem blk4 (i : Fin 8) (k : Fin 2048) (j : Fin 128) : (iblk m c 4 t : FVec Ideal S8x2048x128 .bf16) (ix3 i k j) = arg5 m c (ix3 i k j) := by
  blk_simp [iblk, idx t]
  rw [V_v5]
  pointwise
  blk_ext [iblk, idx t, bat, pos]

theorem blk5 (i : Fin 8) (k : Fin 2048) (j : Fin 128) : (iblk m c 5 t : FVec Ideal S8x2048x128 .bf16) (ix3 i k j) = arg5 m c (ix3 i k j) - arg5 m c (ix3 i k j) := by
  blk_simp [iblk, idx t]
  rw [V_v8]
  pointwise
  blk_point [iblk, idx t, bat, pos]

theorem blk6 (i : Fin 8) (k : Fin 2048) (j : Fin 128) : (iblk m c 6 t : FVec Ideal S8x2048x128 .bf16) (ix3 i k j) = (arg5 m c (ix3 i k j) - arg5 m c (ix3 i k j)) - (arg5 m c (ix3 i k j) - arg5 m c (ix3 i k j)) := by
  blk_simp [iblk, idx t]
  rw [V_v11]
  pointwise
  blk_point [iblk, idx t, bat, pos]

theorem blk7 (i : Fin 8) (k : Fin 2048) : (iblk m c 7 t : FVec Ideal S8x1x2048 .f32) (ix3 i 0 k) = ∑ j, arg5 m c (ix3 i k j) * arg5 m c (ix3 i k j) := by
  blk_simp [iblk, idx t]
  rw [V_v14]
  pointwise
  blk_point [iblk, idx t, bat, pos]

theorem blk8 (k : Fin 128) (j : Fin 768) : (iblk m c 8 t : FVec Ideal S128x768 .f32) (ix2 k j) = arg3 m c (ix2 j k) := by
  blk_simp [iblk, idx t]
  rw [V_v17]
  pointwise
  blk_ext [iblk, idx t, bat, pos]

theorem blk9 (j : Fin 768) : (iblk m c 9 t : FVec Ideal S1x768 .f32) (ix2 0 j) = arg4 m c (ix1 j) := by
  blk_simp [iblk, idx t]
  rw [V_v18]
  pointwise
  blk_ext [iblk, idx t, bat, pos]

end Cert.KernelIdeal.Hand
-- ==== Proof.Spec.lean ====
/- Residual quantisation over the real numbers: the arithmetic both programs do at every token, and the two searches for
   the first nearest codeword. -/
module

public import Idealize.ShloMosaic.Lib.Pointwise

@[expose] public section

set_option maxRecDepth 16384

noncomputable section

namespace Rvq

open Idealize.ShloMosaic

/-! ## Sums of real numbers among the extended ones -/

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sum_mul_real {ι : Type} [Fintype ι] (f g : ι → ℝ) :
    ∑ i, (f i : EReal) * (g i : EReal) = ((∑ i, f i * g i : ℝ) : EReal) := by
  rw [← sum_real]
  exact Finset.sum_congr rfl fun i _ => (EReal.coe_mul _ _).symm

/-! ## The first least index -/

theorem least_nonempty (f : Fin 2048 → ℝ) : (Finset.univ.filter fun k => ∀ k', f k ≤ f k').Nonempty := by
  obtain ⟨k, -, hk⟩ := Finset.exists_min_image Finset.univ f ⟨0, Finset.mem_univ _⟩
  exact ⟨k, Finset.mem_filter.mpr ⟨Finset.mem_univ _, fun k' => hk k' (Finset.mem_univ _)⟩⟩

/-- The first index where `f` is least. -/
def first (f : Fin 2048 → ℝ) : Fin 2048 := (Finset.univ.filter fun k => ∀ k', f k ≤ f k').min' (least_nonempty f)

theorem first_le (f : Fin 2048 → ℝ) (k : Fin 2048) : f (first f) ≤ f k :=
  (Finset.mem_filter.mp (Finset.min'_mem _ (least_nonempty f))).2 k

theorem first_le_of_eq (f : Fin 2048 → ℝ) {k : Fin 2048} (h : f k = f (first f)) : first f ≤ k :=
  Finset.min'_le _ _ (Finset.mem_filter.mpr ⟨Finset.mem_univ _, fun k' => h ▸ first_le f k'⟩)

theorem first_lt (f : Fin 2048 → ℝ) {k : Fin 2048} (h : k ≠ first f) : f (first f) < f k ∨ (f (first f) = f k ∧ first f < k) := by
  rcases lt_or_eq_of_le (first_le f k) with h1 | h1
  · exact .inl h1
  · exact .inr ⟨h1, lt_of_le_of_ne (first_le_of_eq f h1.symm) (Ne.symm h)⟩

/-! ## One token -/

/-- A token's residual's distance to codeword `k`. -/
def dist (E : Fin 2048 → Fin 128 → ℝ) (r : Fin 128 → ℝ) (k : Fin 2048) : ℝ :=
  ∑ j, r j * r j + ∑ j, E k j * E k j - 2 * ∑ j, r j * E k j

/-- Its first nearest codeword. -/
def code (E : Fin 2048 → Fin 128 → ℝ) (r : Fin 128 → ℝ) : Fin 2048 := first (dist E r)

/-- The residual before codebook `i`. -/
def res (E : ℕ → Fin 2048 → Fin 128 → ℝ) (r : Fin 128 → ℝ) : ℕ → Fin 128 → ℝ
  | 0 => r
  | i + 1 => fun j => res E r i j - E i (code (E i) (res E r i)) j

/-- The sum of the codewords taken before codebook `i`. -/
def acc (E : ℕ → Fin 2048 → Fin 128 → ℝ) (r : Fin 128 → ℝ) : ℕ → Fin 128 → ℝ
  | 0 => fun _ => 0
  | i + 1 => fun j => acc E r i j + E i (code (E i) (res E r i)) j

/-- The codeword taken at codebook `i` less the residual. -/
def gap (E : ℕ → Fin 2048 → Fin 128 → ℝ) (r : Fin 128 → ℝ) (i : ℕ) (j : Fin 128) : ℝ :=
  E i (code (E i) (res E r i)) j - res E r i j

/-- A token's projection. -/
def proj (z : Fin 768 → ℝ) (w : Fin 128 → Fin 768 → ℝ) (b : Fin 128 → ℝ) (j : Fin 128) : ℝ := ∑ k, z k * w j k + b j

/-! ## The search by a minimum and a second minimum -/

theorem fold_min (f : Fin 2048 → ℝ) :
    Finset.fold min (⊤ : EReal) (fun k => (f k : EReal)) Finset.univ = (f (first f) : EReal) := by
  apply le_antisymm
  · exact (Finset.fold_min_le _).mpr (.inr ⟨first f, Finset.mem_univ _, le_rfl⟩)
  · exact (Finset.le_fold_min _).mpr ⟨le_top, fun k _ => EReal.coe_le_coe_iff.mpr (first_le f k)⟩

theorem ofNat_toInt (k : ℕ) (h : k ≤ 2048) : (BitVec.ofNat 32 k).toInt = k := by
  rw [BitVec.toInt_ofNat']
  simp only [Int.bmod]
  omega

theorem minsi_left {a b : BitVec 32} (h : a.toInt ≤ b.toInt) : IntOp.minsi a b = a := by
  by_cases h' : a.toInt = b.toInt
  · rw [BitVec.eq_of_toInt_eq h']; simp [IntOp.minsi]
  · have : a.toInt < b.toInt := by omega
    simp [IntOp.minsi, BitVec.slt, this]

theorem minsi_right {a b : BitVec 32} (h : b.toInt ≤ a.toInt) : IntOp.minsi a b = b := by
  by_cases h' : a.toInt = b.toInt
  · rw [BitVec.eq_of_toInt_eq h']; simp [IntOp.minsi]
  · have : ¬ a.toInt < b.toInt := by omega
    simp [IntOp.minsi, BitVec.slt, this]

theorem toInt_fold_minsi {ι : Type} (s : Finset ι) (g : ι → BitVec 32) (a : BitVec 32) :
    (Finset.fold IntOp.minsi a g s).toInt = Finset.fold min a.toInt (fun i => (g i).toInt) s := by
  classical
  induction s using Finset.induction_on with
  | empty => simp
  | insert b s hb ih =>
    rw [Finset.fold_insert hb, Finset.fold_insert hb, ← ih]
    rcases le_total (g b).toInt (Finset.fold IntOp.minsi a g s).toInt with h | h
    · rw [minsi_left h, min_eq_left h]
    · rw [minsi_right h, min_eq_right h]

/-- The least index holding the least value, as two minima find it. -/
theorem fold_minsi (f : Fin 2048 → ℝ) :
    Finset.fold IntOp.minsi (2147483647#32)
      (fun x : Fin 2048 => if (f x : EReal) = (f (first f) : EReal) then BitVec.ofNat 32 x else 2048#32) Finset.univ
      = BitVec.ofNat 32 (first f) := by
  apply BitVec.eq_of_toInt_eq
  rw [toInt_fold_minsi, ofNat_toInt _ (first f).isLt.le]
  apply le_antisymm
  · refine (Finset.fold_min_le _).mpr (.inr ⟨first f, Finset.mem_univ _, ?_⟩)
    rw [if_pos rfl, ofNat_toInt _ (first f).isLt.le]
  · refine (Finset.le_fold_min _).mpr ⟨?_, fun k _ => ?_⟩
    · have := (first f).isLt
      have h : (2147483647#32 : BitVec 32).toInt = 2147483647 := by decide
      omega
    · by_cases h : (f k : EReal) = (f (first f) : EReal)
      · rw [if_pos h, ofNat_toInt _ k.isLt.le]
        exact_mod_cast first_le_of_eq f (EReal.coe_eq_coe_iff.mp h)
      · rw [if_neg h]
        have := (first f).isLt
        have h : (2048#32 : BitVec 32).toInt = 2048 := by decide
        omega

/-! ## The search by one fold over pairs -/

/-- A left fold of a choosing operation arrives at the element that beats every other. -/
theorem foldl_best {α : Type} (g : α → α → α) (P : α) (hsel : ∀ a b, g a b = a ∨ g a b = b) (l : List α) (a : α)
    (ha : a = P ∨ (g P a = P ∧ g a P = P)) (hl : ∀ x ∈ l, x = P ∨ (g P x = P ∧ g x P = P)) (hP : a = P ∨ P ∈ l) :
    l.foldl g a = P := by
  induction l generalizing a with
  | nil => rcases hP with h | h
           · exact h
           · cases h
  | cons x l ih =>
    have hx := hl x (.head _)
    have hgg : g P P = P := (hsel P P).elim id id
    have hl' : ∀ y ∈ l, y = P ∨ (g P y = P ∧ g y P = P) := fun y hy => hl y (.tail _ hy)
    refine ih (g a x) ?_ hl' ?_
    · rcases hsel a x with h | h
      · rw [h]; exact ha
      · rw [h]; exact hx
    · rcases hP with h | h
      · subst h
        rcases hx with h' | h'
        · left; rw [h']; exact hgg
        · exact .inl h'.1
      · rcases List.mem_cons.mp h with h' | h'
        · subst h'
          rcases ha with h | h
          · left; rw [h]; exact hgg
          · exact .inl h.2
        · exact .inr h'

/-- What a search over an axis folds over: the pairs at the indices that drop to the result index. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  simp only [Host.argReduceFiber, List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- A search along an axis arrives at the pair that beats every pair of its fiber and the initial one. -/
theorem search_best {s t u : Shape} {axes : List (Fin s.rank)} {φ : FTy} {β : Type}
    (f : Ideal φ × β → Ideal φ × β → Ideal φ × β) (x : FVec Ideal s φ) (y : s.Idx → β) (ix : u.Idx → Ideal φ)
    (iy : u.Idx → β) (h : s.ReducesTo axes t) (hu : 0 < u.numel) (g : t.Idx → β)
    (hg : g = fun j => (Host.argReduce f x y ix iy h hu j).2) (j : t.Idx) (P : Ideal φ × β)
    (hsel : ∀ a b, f a b = a ∨ f a b = b)
    (hinit : f P (ix (Shape.Idx.first hu), iy (Shape.Idx.first hu)) = P ∧ f (ix (Shape.Idx.first hu), iy (Shape.Idx.first hu)) P = P)
    (hl : ∀ i, h.drop i = j → (x i, y i) = P ∨ (f P (x i, y i) = P ∧ f (x i, y i) P = P))
    (i₀ : s.Idx) (hi₀ : h.drop i₀ = j) (hP : (x i₀, y i₀) = P) : g j = P.2 := by
  subst hg
  show (Host.argReduce f x y ix iy h hu j).2 = P.2
  rw [Ideal.argReduce_eq_reduce2, Host.reduce2_eq_foldl_fiber]
  refine congrArg Prod.snd (foldl_best f P hsel _ _ (.inr hinit) (fun p hp => ?_) (.inr ?_))
  · obtain ⟨i, hi, rfl⟩ := (mem_fiber x y h j p).mp hp
    exact hl i hi
  · exact (mem_fiber x y h j P).mpr ⟨i₀, hi₀, hP.symm⟩

end Rvq
-- ==== Proof.KerIdeal.lean ====
/- The kernel body's arithmetic on finite values: each step of `KerOps` is the real one of `Spec`. -/
module

public import proofs.«01_k».proof.Proof.KerOps
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

/-- The rotations' sum is the sum of the row. -/
theorem kSq_at (r : FVec Ideal S256x128 .f32) (n : Fin 256) : kSq r (ix2 n 0) = ∑ j, r (ix2 n j) * r (ix2 n j) := by
  pointwise [kSq, kHalf, kRoll]
  rw [Fin.sum_univ_tiles 16 8 rfl]
  simp only [Fin.sum_univ_succ, Fin.sum_univ_zero, Fin.val_succ, Fin.val_zero, Nat.reduceAdd, Nat.reduceMul, zero_add,
    Nat.zero_add, Nat.add_zero, Nat.zero_mul, Nat.one_mul, Fin.reduceFinMk, Fin.mk_zero, Fin.mk_one, Fin.zero_eta]
  abel

theorem kDist_at (r : FVec Ideal S256x128 .f32) (cb : FVec Ideal S1x128x2048 .f32) (e2 : FVec Ideal S1x1x2048 .f32)
    (E : Fin 2048 → Fin 128 → ℝ) (ρ : Fin 128 → ℝ) (n : Fin 256) (k : Fin 2048)
    (hr : ∀ j, r (ix2 n j) = (ρ j : EReal)) (hc : ∀ j, cb (ix3 0 j k) = ((-2 * E k j : ℝ) : EReal))
    (he : e2 (ix3 0 0 k) = ((∑ j, E k j * E k j : ℝ) : EReal)) :
    kDist r cb e2 (ix2 n k) = (Rvq.dist E ρ k : EReal) := by
  pointwise [kDist]
  rw [kSq_at, he]
  simp only [hr, hc]
  rw [Rvq.sum_mul_real, Rvq.sum_mul_real, ← EReal.coe_add, ← EReal.coe_add]
  refine congrArg _ ?_
  unfold Rvq.dist
  rw [sub_eq_add_neg, Finset.mul_sum, ← Finset.sum_neg_distrib]
  exact congrArg _ (Finset.sum_congr rfl fun j _ => by ring)

theorem kCode_at (D : FVec Ideal S256x2048 .f32) (f : Fin 2048 → ℝ) (n : Fin 256)
    (hD : ∀ k, D (ix2 n k) = (f k : EReal)) : kCode D (ix1 n) = BitVec.ofNat 32 (Rvq.first f) := by
  pointwise [kCode]
  simp only [hD]
  rw [show Ideal.ofBits FTy.f32 2139095040#32 = ⊤ from by simp [Ideal.ofBits, Ideal.ieee], Rvq.fold_min, Rvq.fold_minsi]

theorem kHot_at (c : IVec S256 32) (q : Fin 2048) (n : Fin 256) (hc : c (ix1 n) = BitVec.ofNat 32 q) (k : Fin 2048) :
    kHot (F := Ideal) c (ix2 n k) = if k = q then 1 else 0 := by
  pointwise [kHot]
  rw [hc]
  by_cases h : k = q
  · subst h
    rw [if_pos rfl, show IntOp.cmpi CmpIPredicate.eq (BitVec.ofNat 32 (k : ℕ)) (BitVec.ofNat 32 (k : ℕ)) = 1#1 from by
      simp [IntOp.cmpi]]
    show (((1#32 : BitVec 32).toInt : ℝ) : EReal) = 1
    simp
  · have hne : ¬ BitVec.ofNat 32 (k : ℕ) = BitVec.ofNat 32 (q : ℕ) := fun e => h (Fin.ext (by
      have := congrArg BitVec.toInt e
      rw [Rvq.ofNat_toInt _ k.isLt.le, Rvq.ofNat_toInt _ q.isLt.le] at this
      exact_mod_cast this))
    rw [if_neg h, show IntOp.cmpi CmpIPredicate.eq (BitVec.ofNat 32 (k : ℕ)) (BitVec.ofNat 32 (q : ℕ)) = 0#1 from by
      show BitVec.ofBool (BitVec.ofNat 32 (k : ℕ) == BitVec.ofNat 32 (q : ℕ)) = 0#1
      rw [beq_false_of_ne hne]
      rfl]
    show (((0#32 : BitVec 32).toInt : ℝ) : EReal) = 0
    simp

theorem kSel_at (oh : FVec Ideal S256x2048 .bf16) (e : FVec Ideal S1x2048x128 .bf16) (q : Fin 2048) (n : Fin 256)
    (j : Fin 128) (h : ∀ k, oh (ix2 n k) = if k = q then 1 else 0) : kSel (F := Ideal) oh e (ix2 n j) = e (ix3 0 q j) := by
  pointwise [kSel]
  simp only [h, ite_mul, one_mul, zero_mul]
  rw [Finset.sum_ite_eq' Finset.univ q]
  simp

theorem kLoss_eq (d : FVec Ideal S256x128 .f32) : kLoss d = ∑ n : Fin 256, ∑ j : Fin 128, d (ix2 n j) * d (ix2 n j) := by
  pointwise [kLoss]

theorem kIn_at (x0 : FVec Ideal S256x768 .f32) (x1 : FVec Ideal S768x128 .f32) (x2 : FVec Ideal S1x128 .f32) (n : Fin 256)
    (j : Fin 128) : k0_pay3 x0 x1 x2 (ix2 n j) = ∑ k : Fin 768, x0 (ix2 n k) * x1 (ix2 k j) + x2 (ix2 0 j) := by
  pointwise [k0_pay3]
  rw [Fin.sum_univ_tiles 3 256 rfl (fun k : Fin 768 => x0 (ix2 n k) * x1 (ix2 k j)), Fin.sum_univ_three]
  simp

theorem kOut_at (q : FVec Ideal S256x128 .f32) (w : FVec Ideal S128x768 .f32) (b : FVec Ideal S1x768 .f32) (n : Fin 256)
    (j : Fin 768) : kOut q w b (ix2 n j) = ∑ k : Fin 128, q (ix2 n k) * w (ix2 k j) + b (ix2 0 j) := by
  pointwise [kOut]

/-! ## A whole tile -/

section Tile

variable {x0 : FVec Ideal S256x768 .f32} {x1 : FVec Ideal S768x128 .f32} {x2 : FVec Ideal S1x128 .f32}
  {x3 : FVec Ideal S8x128x2048 .f32} {x4 x5 x6 : FVec Ideal S8x2048x128 .bf16} {x7 : FVec Ideal S8x1x2048 .f32}

/-- The blocks hold the codebooks `E`: minus twice their transposes, their three parts, and their squared norms. -/
structure Blocks (x3 : FVec Ideal S8x128x2048 .f32) (x4 x5 x6 : FVec Ideal S8x2048x128 .bf16)
    (x7 : FVec Ideal S8x1x2048 .f32) (E : ℕ → Fin 2048 → Fin 128 → ℝ) : Prop where
  cb : ∀ i k j, slab x3 i (ix3 0 j k) = ((-2 * E i k j : ℝ) : EReal)
  hi : ∀ i k j, slab x4 i (ix3 0 k j) = (E i k j : EReal)
  mid : ∀ i k j, slab x5 i (ix3 0 k j) = 0
  lo : ∀ i k j, slab x6 i (ix3 0 k j) = 0
  sq : ∀ i k, slab x7 i (ix3 0 0 k) = ((∑ j, E i k j * E i k j : ℝ) : EReal)

variable {E : ℕ → Fin 2048 → Fin 128 → ℝ} (hB : Blocks x3 x4 x5 x6 x7 E)
include hB

theorem kC_at (r : FVec Ideal S256x128 .f32) (i : ℕ) (ρ : Fin 128 → ℝ) (n : Fin 256)
    (hr : ∀ j, r (ix2 n j) = (ρ j : EReal)) : kC x3 x7 r i (ix1 n) = BitVec.ofNat 32 (Rvq.code (E i) ρ) :=
  kCode_at _ _ n fun k => kDist_at _ _ _ (E i) ρ n k hr (fun j => hB.cb i k j) (hB.sq i k)

theorem kD_at (r : FVec Ideal S256x128 .f32) (i : ℕ) (ρ : Fin 128 → ℝ) (n : Fin 256) (j : Fin 128)
    (hr : ∀ j, r (ix2 n j) = (ρ j : EReal)) :
    kD x3 x4 x5 x6 x7 r i (ix2 n j) = ((E i (Rvq.code (E i) ρ) j - ρ j : ℝ) : EReal) := by
  have hh := kHot_at _ _ n (kC_at hB r i ρ n hr)
  show kSel _ _ (ix2 n j) + kSel _ _ (ix2 n j) + kSel _ _ (ix2 n j) - r (ix2 n j) = _
  rw [kSel_at _ _ _ n j hh, kSel_at _ _ _ n j hh, kSel_at _ _ _ n j hh, hB.hi, hB.mid, hB.lo, hr, add_zero, add_zero,
    ← EReal.coe_sub]

variable {ρ : Fin 256 → Fin 128 → ℝ} (hρ : ∀ n j, k0_pay3 (F := Ideal) x0 x1 x2 (ix2 n j) = (ρ n j : EReal))
include hρ

theorem kR_at (i : ℕ) (n : Fin 256) (j : Fin 128) :
    kR (F := Ideal) x0 x1 x2 x3 x4 x5 x6 x7 i (ix2 n j) = (Rvq.res E (ρ n) i j : EReal) := by
  induction i generalizing j with
  | zero => exact hρ n j
  | succ i ih =>
    show kR (F := Ideal) x0 x1 x2 x3 x4 x5 x6 x7 i (ix2 n j)
      - (kR (F := Ideal) x0 x1 x2 x3 x4 x5 x6 x7 i (ix2 n j) + kD x3 x4 x5 x6 x7 _ i (ix2 n j)) = _
    rw [kD_at hB _ i (Rvq.res E (ρ n) i) n j ih, ih, ← EReal.coe_add, ← EReal.coe_sub]
    refine congrArg _ ?_
    simp only [Rvq.res]
    ring

theorem kGap_at (i : ℕ) (n : Fin 256) (j : Fin 128) :
    kD x3 x4 x5 x6 x7 (kR (F := Ideal) x0 x1 x2 x3 x4 x5 x6 x7 i) i (ix2 n j) = (Rvq.gap E (ρ n) i j : EReal) :=
  kD_at hB _ i _ n j (kR_at hB hρ i n)

theorem kCodes_at (i : ℕ) (n : Fin 256) :
    kC x3 x7 (kR (F := Ideal) x0 x1 x2 x3 x4 x5 x6 x7 i) i (ix1 n) = BitVec.ofNat 32 (Rvq.code (E i) (Rvq.res E (ρ n) i)) :=
  kC_at hB _ i _ n (kR_at hB hρ i n)

theorem kS_at (i : ℕ) (n : Fin 256) (j : Fin 128) :
    kS (F := Ideal) x0 x1 x2 x3 x4 x5 x6 x7 i (ix2 n j) = (Rvq.acc E (ρ n) i j : EReal) := by
  induction i with
  | zero => show k0_pay4 (F := Ideal) (ix2 n j) = _
            pointwise [k0_pay4]
            rfl
  | succ i ih =>
    show kS (F := Ideal) x0 x1 x2 x3 x4 x5 x6 x7 i (ix2 n j)
      + (kR (F := Ideal) x0 x1 x2 x3 x4 x5 x6 x7 i (ix2 n j) + kD x3 x4 x5 x6 x7 _ i (ix2 n j)) = _
    rw [ih, kGap_at hB hρ, kR_at hB hρ, ← EReal.coe_add, ← EReal.coe_add]
    refine congrArg _ ?_
    simp only [Rvq.acc, Rvq.gap]
    ring

theorem kL_at (i : ℕ) : kL (F := Ideal) x0 x1 x2 x3 x4 x5 x6 x7 i
    = ((∑ a ∈ Finset.range i, ∑ n, ∑ j, Rvq.gap E (ρ n) a j * Rvq.gap E (ρ n) a j : ℝ) : EReal) := by
  induction i with
  | zero => show Ideal.ofBits .f32 0x00000000#32 = _
            simp
  | succ i ih =>
    show kL (F := Ideal) x0 x1 x2 x3 x4 x5 x6 x7 i + kLoss _ = _
    rw [ih, kLoss_eq, Finset.sum_range_succ, EReal.coe_add]
    simp only [kGap_at hB hρ, Rvq.sum_mul_real, Rvq.sum_real]

end Tile

end Cert.KernelIdeal.Hand
-- ==== Proof.Inputs.lean ====
/- The inputs as real numbers: the codebooks and the tokens after the input projection, where all of it is finite. -/
module

public import proofs.«01_k».proof.Proof.Spec
public import proofs.«01_k».proof.KernelIdeal

@[expose] public section

noncomputable section

namespace Rvq

open Cert.KernelIdeal
open Idealize.ShloMosaic

/-- Codebook `i` (taken modulo 8) as real numbers. -/
def books (cb : FVec Ideal S8x2048x128 .f32) (i : ℕ) (k : Fin 2048) (j : Fin 128) : ℝ :=
  EReal.toReal (cb (ix3 ⟨i % 8, Nat.mod_lt _ (by decide)⟩ k j))

/-- Token `n` of batch `b` after the input projection. -/
def toks (z : FVec Ideal S4x768x1024 .f32) (w : FVec Ideal S128x768 .f32) (c : FVec Ideal S128 .f32)
    (b : Fin 4) (n : Fin 1024) (j : Fin 128) : ℝ :=
  EReal.toReal (∑ k : Fin 768, z (ix3 b k n) * w (ix2 j k) + c (ix1 j))

/-- The four inputs that decide the codes hold real numbers only. -/
structure Finite (z : FVec Ideal S4x768x1024 .f32) (w : FVec Ideal S128x768 .f32) (c : FVec Ideal S128 .f32)
    (cb : FVec Ideal S8x2048x128 .f32) : Prop where
  hz : ∀ y, ∃ r : ℝ, z y = (r : EReal)
  hw : ∀ y, ∃ r : ℝ, w y = (r : EReal)
  hc : ∀ y, ∃ r : ℝ, c y = (r : EReal)
  hcb : ∀ y, ∃ r : ℝ, cb y = (r : EReal)

variable {z : FVec Ideal S4x768x1024 .f32} {w : FVec Ideal S128x768 .f32} {c : FVec Ideal S128 .f32}
  {cb : FVec Ideal S8x2048x128 .f32}

theorem Finite.books_eq (h : Finite z w c cb) (i : ℕ) (k : Fin 2048) (j : Fin 128) :
    cb (ix3 ⟨i % 8, Nat.mod_lt _ (by decide)⟩ k j) = (books cb i k j : EReal) := by
  obtain ⟨r, hr⟩ := h.hcb (ix3 ⟨i % 8, Nat.mod_lt _ (by decide)⟩ k j)
  rw [books, hr, EReal.toReal_coe]

theorem Finite.toks_eq (h : Finite z w c cb) (b : Fin 4) (n : Fin 1024) (j : Fin 128) :
    ∑ k : Fin 768, z (ix3 b k n) * w (ix2 j k) + c (ix1 j) = (toks z w c b n j : EReal) := by
  choose z' hz using h.hz
  choose w' hw using h.hw
  choose c' hc using h.hc
  have e : ∑ k : Fin 768, z (ix3 b k n) * w (ix2 j k) + c (ix1 j)
      = ((∑ k : Fin 768, z' (ix3 b k n) * w' (ix2 j k) + c' (ix1 j) : ℝ) : EReal) := by
    simp only [hz, hw, hc]
    rw [EReal.coe_add, ← sum_mul_real]
  rw [toks, e, EReal.toReal_coe]

/-! The three results, of the codebooks and the tokens. -/

/-- The code of every token in every codebook. -/
def codesOf (E : ℕ → Fin 2048 → Fin 128 → ℝ) (T : Fin 4 → Fin 1024 → Fin 128 → ℝ) (y : S4x8x1024.Idx) : BitVec 32 :=
  BitVec.ofNat 32 (code (E (y 1).val) (res E (T (y 0) (y 2)) (y 1).val))

/-- The chosen rows added up and taken through the output projection. -/
def outOf (E : ℕ → Fin 2048 → Fin 128 → ℝ) (T : Fin 4 → Fin 1024 → Fin 128 → ℝ) (w : FVec Ideal S768x128 .f32)
    (v : FVec Ideal S768 .f32) (y : S4x768x1024.Idx) : EReal :=
  ∑ k : Fin 128, (acc E (T (y 0) (y 2)) 8 k : EReal) * w (ix2 (y 1) k) + v (ix1 (y 1))

/-- The squared gaps of one token, over the codebooks. -/
def gaps (E : ℕ → Fin 2048 → Fin 128 → ℝ) (r : Fin 128 → ℝ) : ℝ :=
  ∑ a ∈ Finset.range 8, ∑ j, gap E r a j * gap E r a j

/-- The commitment loss: the mean squared gap. -/
def lossOf (E : ℕ → Fin 2048 → Fin 128 → ℝ) (T : Fin 4 → Fin 1024 → Fin 128 → ℝ) : ℝ :=
  (∑ b, ∑ n, gaps E (T b n)) / 4194304

end Rvq
-- ==== Proof.KerArr.lean ====
/- The three result arrays of the kernel's region, on finite inputs. -/
module

public import proofs.«01_k».proof.Proof.KerBlocks
public import proofs.«01_k».proof.Proof.KerIdeal
public import proofs.«01_k».proof.Proof.Inputs

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The codebooks and the tokens of the launch, as real numbers. -/
abbrev mE : ℕ → Fin 2048 → Fin 128 → ℝ := Rvq.books (arg5 m c)
@[inherit_doc mE]
abbrev mT : Fin 4 → Fin 1024 → Fin 128 → ℝ := Rvq.toks (arg0 m c) (arg1 m c) (arg2 m c)

/-- The launch's inputs are finite where it matters. -/
abbrev Fin_ : Prop := Rvq.Finite (arg0 m c) (arg1 m c) (arg2 m c) (arg5 m c)

theorem ofBits_neg_two : Ideal.ofBits .f32 0xC0000000#32 = ((-2 : ℝ) : EReal) := by
  simp [Ideal.ofBits, Ideal.ieee]; rw [← EReal.coe_mul]; norm_num

variable {m c} (hf : Fin_ m c) (t : Fin cfg0.N)
include hf

theorem blocks : Blocks (iblk m c 3 t) (iblk m c 4 t) (iblk m c 5 t) (iblk m c 6 t) (iblk m c 7 t) (mE m c) where
  cb i k j := by
    refine (blk3 m c t ⟨i % 8, Nat.mod_lt _ (by decide)⟩ k j).trans ?_
    rw [hf.books_eq, ofBits_neg_two, ← EReal.coe_mul]
  hi i k j := (blk4 m c t ⟨i % 8, Nat.mod_lt _ (by decide)⟩ k j).trans (hf.books_eq i k j)
  mid i k j := by
    refine (blk5 m c t ⟨i % 8, Nat.mod_lt _ (by decide)⟩ k j).trans ?_
    rw [hf.books_eq, ← EReal.coe_sub, sub_self]; rfl
  lo i k j := by
    refine (blk6 m c t ⟨i % 8, Nat.mod_lt _ (by decide)⟩ k j).trans ?_
    rw [hf.books_eq, ← EReal.coe_sub, sub_self, ← EReal.coe_sub, sub_self]; rfl
  sq i k := by
    refine (blk7 m c t ⟨i % 8, Nat.mod_lt _ (by decide)⟩ k).trans ?_
    simp only [hf.books_eq]
    exact Rvq.sum_mul_real _ _

theorem tokens (n : Fin 256) (j : Fin 128) :
    k0_pay3 (F := Ideal) (iblk m c 0 t) (iblk m c 1 t) (iblk m c 2 t) (ix2 n j)
      = (mT m c (bat t n) (pos t n) j : EReal) := by
  rw [kIn_at]
  simp only [blk0, blk1, blk2]
  exact hf.toks_eq _ _ _

theorem codes_pt (i : Fin 8) (n : Fin 256) : (outsAt0 m c t.val t.isLt).1 (ix2 i n)
    = BitVec.ofNat 32 (Rvq.code (mE m c i) (Rvq.res (mE m c) (mT m c (bat t n) (pos t n)) i)) := by
  have h := kCodes_at (blocks hf t) (ρ := fun n => mT m c (bat t n) (pos t n)) (tokens hf t) i n
  by_cases h0 : t.val % 16 = 0
  · exact ((outs_first (F := Ideal) m c t h0).1 (ix2 i n)).trans h
  · exact ((outs_later (F := Ideal) m c t h0).1 (ix2 i n)).trans h

theorem out_pt (n : Fin 256) (j : Fin 768) : (outsAt0 m c t.val t.isLt).2.1 (ix2 n j)
    = ∑ k : Fin 128, (Rvq.acc (mE m c) (mT m c (bat t n) (pos t n)) 8 k : EReal) * arg3 m c (ix2 j k) + arg4 m c (ix1 j) := by
  have e : (outsAt0 m c t.val t.isLt).2.1 = kOut (sAt m c t 8) (iblk m c 8 t) (iblk m c 9 t) := by
    by_cases h0 : t.val % 16 = 0
    · exact (outs_first (F := Ideal) m c t h0).2.1
    · exact (outs_later (F := Ideal) m c t h0).2.1
  rw [e, kOut_at]
  simp only [blk8, blk9, kS_at (blocks hf t) (ρ := fun n => mT m c (bat t n) (pos t n)) (tokens hf t)]

/-- The squared gaps of one point's tokens, over the eight codebooks. -/
def lossAt (E : ℕ → Fin 2048 → Fin 128 → ℝ) (T : Fin 4 → Fin 1024 → Fin 128 → ℝ) (t : Fin cfg0.N) : ℝ :=
  ∑ a ∈ Finset.range 8, ∑ n, ∑ j, Rvq.gap E (T (bat t n) (pos t n)) a j * Rvq.gap E (T (bat t n) (pos t n)) a j

theorem loss_last (y : S1x1.Idx) : (outsAt0 m c 15 (lt_of_lt_of_eq (by decide) N_0.symm)).2.2 y
    = ((∑ t : Fin cfg0.N, lossAt (mE m c) (mT m c) t : ℝ) : EReal) := by
  have hl : ∀ t : Fin cfg0.N, lAt m c t 8 = (lossAt (mE m c) (mT m c) t : EReal) := fun t =>
    kL_at (blocks hf t) (ρ := fun n => mT m c (bat t n) (pos t n)) (tokens hf t) 8
  refine (Pipeline.eq_sum_fin_of_reset_step_apply_last (fun n h => (outsAt0 m c n h).2.2) 16 (fun _ => (0 : EReal))
    (fun t _ => (lossAt (mE m c) (mT m c) t : EReal)) (fun t h0 y => ?_) (fun t h0 y => ?_) (le_of_eq N_0) t0_15 rfl y).trans ?_
  · rw [(outs_first (F := Ideal) m c t h0).2.2, hl t]
    pointwise
  · rw [(outs_later (F := Ideal) m c t h0).2.2, hl t]
    pointwise
  · rw [zero_add, Rvq.sum_real]

/-- The codes as the region leaves them: one row per codebook, one column per token. -/
theorem final10 : (dats m 0 c).arrAt 10 cfg0.N = fun y : S8x4096.Idx =>
    BitVec.ofNat 32 (Rvq.code (mE m c (y 0)) (Rvq.res (mE m c)
      (mT m c ⟨(y 1).val / 1024, by have : (y 1).val < 4096 := (y 1).isLt; omega⟩ ⟨(y 1).val % 1024, Nat.mod_lt _ (by decide)⟩) (y 0).val)) := by
  refine (dats m 0 c).arrAt_eq_of_covers 10 _ (by decide +kernel) fun t _ y => ?_
  obtain ⟨i, n, rfl⟩ : ∃ (i : Fin 8) (n : Fin 256), y = ix2 i n := ⟨y 0, y 1, by funext a; fin_cases a <;> rfl⟩
  blk_simp [idx t]
  rw [after0_10]
  exact codes_pt hf t i n

/-- The projected sums as the region leaves them: one row per token. -/
theorem final11 : (dats m 0 c).arrAt 11 cfg0.N = fun y : S4096x768.Idx =>
    ∑ k : Fin 128, (Rvq.acc (mE m c)
      (mT m c ⟨(y 0).val / 1024, by have : (y 0).val < 4096 := (y 0).isLt; omega⟩ ⟨(y 0).val % 1024, Nat.mod_lt _ (by decide)⟩) 8 k : EReal)
        * arg3 m c (ix2 (y 1) k) + arg4 m c (ix1 (y 1)) := by
  refine (dats m 0 c).arrAt_eq_of_covers 11 _ (by decide +kernel) fun t _ y => ?_
  obtain ⟨n, j, rfl⟩ : ∃ (n : Fin 256) (j : Fin 768), y = ix2 n j := ⟨y 0, y 1, by funext a; fin_cases a <;> rfl⟩
  blk_simp [idx t]
  rw [after0_11]
  have e : (win0_11.blk t).view.emb (ix2 n j) 1 = j := Fin.ext (by blk_simp [idx t])
  rw [e]
  exact out_pt hf t n j

/-- The squared gaps as the region leaves them, summed over all tokens. -/
theorem final12 : (dats m 0 c).arrAt 12 cfg0.N = fun y : S1x1.Idx =>
    ((∑ t : Fin cfg0.N, lossAt (mE m c) (mT m c) t : ℝ) : EReal) := by
  refine (dats m 0 c).arrAt_eq_of_after_last 12 t0_15 (by decide +kernel) _ fun j => ?_
  blk_simp
  rw [after0_12]
  exact loss_last hf _

end Cert.KernelIdeal.Hand
-- ==== Proof.KerRun.lean ====
/- What the kernel's program leaves in its three results, on finite inputs. -/
module

public import proofs.«01_k».proof.Proof.KerArr
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem arr_inj : Function.Injective (Pipeline.arrRef (cfgs 0).spec) := by decide +kernel

/-- The results, from the region's three arrays. -/
theorem run : θ_run defs (onTc (τ := τ) (main (F := Ideal))) ⟨m, fun _ => 0, ρ⟩ (fun r => ∀ c : Dev nD,
      r.2.mem ((c.tc : Thread nD τ).loc main_v21) = transpose S4x8x1024 [1, 0, 2] (shapeCast S8x4x1024 ((dats m 0 c).arrAt 10 cfg0.N : Vec Ideal S8x4096 .i32) shapeCasts_S8x4096_S8x4x1024) transposes_S8x4x1024_S4x8x1024_1_0_2
      ∧ r.2.mem ((c.tc : Thread nD τ).loc main_v23) = transpose S4x768x1024 [0, 2, 1] (shapeCast S4x1024x768 ((dats m 0 c).arrAt 11 cfg0.N : FVec Ideal S4096x768 .f32) shapeCasts_S4096x768_S4x1024x768) transposes_S4x1024x768_S4x768x1024_0_2_1
      ∧ r.2.mem ((c.tc : Thread nD τ).loc main_v25) = Host.divf (shapeCast S_ ((dats m 0 c).arrAt 12 cfg0.N : FVec Ideal S1x1 .f32) shapeCasts_S1x1_S_) (constant (F := Ideal) S_ .f32 0x4A800000#32)) := by
  run_from (Gen.run_main m ρ)
  all_goals
    unfold Pipeline.afterTail₀
    simp only [hostOps1, List.flatten_cons, List.flatten_nil, List.append_nil, StableHlo.after_cons, StableHlo.after_nil]
    after_results_simp
  · rw [Pipeline.withArrays_arr (cfgs 0).spec arr_inj c (V0 m c) (fun w => (dats m 0 c).arrAt w (cfgs 0).N) 10]; rfl
  · rw [Pipeline.withArrays_arr (cfgs 0).spec arr_inj c (V0 m c) (fun w => (dats m 0 c).arrAt w (cfgs 0).N) 11]; rfl
  · rw [Pipeline.withArrays_arr (cfgs 0).spec arr_inj c (V0 m c) (fun w => (dats m 0 c).arrAt w (cfgs 0).N) 12]; rfl

theorem ofBits_total : Ideal.ofBits .f32 0x4A800000#32 = ((4194304 : ℝ) : EReal) := by
  simp [Ideal.ofBits, Ideal.ieee]; rw [← EReal.coe_mul]; norm_num

variable {m}

theorem codes_at (X : Vec Ideal S8x4096 .i32) (b : Fin 4) (i : Fin 8) (n : Fin 1024) :
    transpose S4x8x1024 [1, 0, 2] (shapeCast S8x4x1024 X shapeCasts_S8x4096_S8x4x1024) transposes_S8x4x1024_S4x8x1024_1_0_2 (ix3 b i n)
      = X (ix2 i ⟨b.val * 1024 + n.val, by omega⟩) := by
  pointwise

theorem out_at (X : FVec Ideal S4096x768 .f32) (b : Fin 4) (j : Fin 768) (n : Fin 1024) :
    transpose S4x768x1024 [0, 2, 1] (shapeCast S4x1024x768 X shapeCasts_S4096x768_S4x1024x768) transposes_S4x1024x768_S4x768x1024_0_2_1 (ix3 b j n)
      = X (ix2 ⟨b.val * 1024 + n.val, by omega⟩ j) := by
  pointwise

theorem split (T : Fin 4 → Fin 1024 → Fin 128 → ℝ) (b : Fin 4) (n : Fin 1024) :
    T ⟨(b.val * 1024 + n.val) / 1024, by omega⟩ ⟨(b.val * 1024 + n.val) % 1024, Nat.mod_lt _ (by decide)⟩ = T b n :=
  congrArg₂ T (Fin.ext (by show (b.val * 1024 + n.val) / 1024 = b.val; omega))
    (Fin.ext (by show (b.val * 1024 + n.val) % 1024 = n.val; omega))

theorem codes_eq {c : Dev nD} (hf : Fin_ m c) :
    transpose S4x8x1024 [1, 0, 2] (shapeCast S8x4x1024 ((dats m 0 c).arrAt 10 cfg0.N : Vec Ideal S8x4096 .i32) shapeCasts_S8x4096_S8x4x1024) transposes_S8x4x1024_S4x8x1024_1_0_2
      = Rvq.codesOf (mE m c) (mT m c) := by
  rw [final10 hf]
  funext y
  obtain ⟨b, i, n, rfl⟩ : ∃ (b : Fin 4) (i : Fin 8) (n : Fin 1024), y = ix3 b i n := ⟨y 0, y 1, y 2, by funext a; fin_cases a <;> rfl⟩
  refine (codes_at _ b i n).trans ?_
  generalize mE m c = E
  generalize mT m c = T
  exact congrArg (fun r => BitVec.ofNat 32 (Rvq.code (E i.val) (Rvq.res E r i.val))) (split T b n)

theorem out_eq {c : Dev nD} (hf : Fin_ m c) :
    transpose S4x768x1024 [0, 2, 1] (shapeCast S4x1024x768 ((dats m 0 c).arrAt 11 cfg0.N : FVec Ideal S4096x768 .f32) shapeCasts_S4096x768_S4x1024x768) transposes_S4x1024x768_S4x768x1024_0_2_1
      = Rvq.outOf (mE m c) (mT m c) (arg3 m c) (arg4 m c) := by
  rw [final11 hf]
  funext y
  obtain ⟨b, j, n, rfl⟩ : ∃ (b : Fin 4) (j : Fin 768) (n : Fin 1024), y = ix3 b j n := ⟨y 0, y 1, y 2, by funext a; fin_cases a <;> rfl⟩
  refine (out_at _ b j n).trans ?_
  generalize mE m c = E
  generalize mT m c = T
  exact congrArg (fun r => ∑ k : Fin 128, (Rvq.acc E r 8 k : EReal) * arg3 m c (ix2 j k) + arg4 m c (ix1 j)) (split T b n)

/-- The tokens point by point are the tokens batch by batch. -/
theorem sum_tokens (f : Fin 4 → Fin 1024 → ℝ) :
    ∑ t : Fin cfg0.N, ∑ n : Fin 256, f (bat t n) (pos t n) = ∑ b, ∑ n, f b n := by
  let g : Fin 4096 → ℝ := fun r => f ⟨r.val / 1024, by omega⟩ ⟨r.val % 1024, Nat.mod_lt _ (by decide)⟩
  have h1 : ∑ r, g r = ∑ t : Fin 16, ∑ n : Fin 256, g ⟨t.val * 256 + n.val, by omega⟩ := Fin.sum_univ_tiles 16 256 rfl g
  have h2 : ∑ r, g r = ∑ b : Fin 4, ∑ n : Fin 1024, g ⟨b.val * 1024 + n.val, by omega⟩ := Fin.sum_univ_tiles 4 1024 rfl g
  have h3 : ∑ t : Fin cfg0.N, ∑ n : Fin 256, f (bat t n) (pos t n)
      = ∑ t : Fin 16, ∑ n : Fin 256, g ⟨t.val * 256 + n.val, by omega⟩ :=
    Fintype.sum_equiv (finCongr N_0) _ _ fun t => rfl
  rw [h3, ← h1, h2]
  refine Finset.sum_congr rfl fun b _ => Finset.sum_congr rfl fun n _ => ?_
  have e1 : (b.val * 1024 + n.val) / 1024 = b.val := by omega
  have e2 : (b.val * 1024 + n.val) % 1024 = n.val := by omega
  simp only [g, e1, e2]

theorem loss_eq {c : Dev nD} (hf : Fin_ m c) :
    Host.divf (shapeCast S_ ((dats m 0 c).arrAt 12 cfg0.N : FVec Ideal S1x1 .f32) shapeCasts_S1x1_S_) (constant (F := Ideal) S_ .f32 0x4A800000#32)
      = fun _ => (Rvq.lossOf (mE m c) (mT m c) : EReal) := by
  rw [final12 hf]
  funext y
  pointwise
  rw [ofBits_total, Ideal.div_coe (by norm_num), ← EReal.coe_mul, Rvq.lossOf, ← sum_tokens fun b n => Rvq.gaps (mE m c) (mT m c b n), mul_one_div]
  congr 2
  refine Finset.sum_congr rfl fun t _ => ?_
  simp only [lossAt, Rvq.gaps]
  exact Finset.sum_comm

/-- The kernel's program, run on finite inputs: its three results. -/
theorem run_finite (hf : ∀ c, Fin_ m c) : θ_run defs (onTc (τ := τ) (main (F := Ideal))) ⟨m, fun _ => 0, ρ⟩ (fun r => ∀ c : Dev nD,
      r.2.mem ((c.tc : Thread nD τ).loc main_v21) = Rvq.codesOf (mE m c) (mT m c)
      ∧ r.2.mem ((c.tc : Thread nD τ).loc main_v23) = Rvq.outOf (mE m c) (mT m c) (arg3 m c) (arg4 m c)
      ∧ r.2.mem ((c.tc : Thread nD τ).loc main_v25) = fun _ => (Rvq.lossOf (mE m c) (mT m c) : EReal)) :=
  θ_run_mono (run m ρ) fun r h c =>
    ⟨(h c).1.trans (codes_eq (hf c)), (h c).2.1.trans (out_eq (hf c)), (h c).2.2.trans (loss_eq (hf c))⟩

end Cert.KernelIdeal.Hand
-- ==== Proof.RefOps.lean ====
/- The reference's @main as lists of its operations: nine before the books, one list per codebook (the same operations over
   eight records of buffers), ten after them. @main is their concatenation. -/
module

public import proofs.«01_k».proof.Proof.Gen.ReferenceIdeal
public import Idealize.ShloMosaic.Lib.StableHlo.Run
public import Idealize.ShloMosaic.Lib.StableHlo.RunClose

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- Typed references of the reference's buffers, by shape. -/
abbrev TF (s : Shape) : Type := TRef sig ⟨s, EltTy.f32⟩
@[inherit_doc TF]
abbrev TI (s : Shape) : Type := TRef sig ⟨s, EltTy.i32⟩

/-- The buffers of one codebook's operations. -/
structure Book where
  sl : TF S1x2048x128
  e : TF S2048x128
  rt : TF S4x1024x128
  rr : TF S4x1024x128
  z0 : TF S_
  rs : TF S4x1024
  rsb : TF S4x1024x1
  ee : TF S2048x128
  z1 : TF S_
  es : TF S2048
  esb : TF S1x1x2048
  rsB : TF S4x1024x2048
  esB : TF S4x1024x2048
  sm : TF S4x1024x2048
  et : TF S128x2048
  dt : TF S4x1024x2048
  two : TF S_
  twoB : TF S4x1024x2048
  dt2 : TF S4x1024x2048
  dist : TF S4x1024x2048
  amin : fn_argmin.Bufs
  take : fn_take.Bufs
  qT : TF S4x128x1024
  dif : TF S4x128x1024
  qst : TF S4x128x1024
  df : TF S4x128x1024
  dd : TF S4x128x1024
  z2 : TF S_
  ss : TF S_
  cn : TF S_
  mse : TF S_
  cod : TI S4x1x1024
  qs : TF S4x128x1024
  rn : TF S4x128x1024

/-- The operations of one call of @argmin. -/
abbrev argminOps (x : TF S4x1024x2048) (φ : fn_argmin.Bufs) : List (HloOp τ sig (Elt F)) :=
  [ TRef.nullary φ.v0 (iotaInDim S4x1024x2048 32 2),
    TRef.nullary φ.cst (constant S_ .f32 0x7F800000#32),
    TRef.nullary φ.c (constantI S_ 32 0#32),
    TRef.quaternary x φ.v0 φ.cst φ.c φ.v1_0 (fun x y u v j => (Host.argReduce reducer_argmin_f32_i32 x y u v reducesTo_S4x1024x2048_S4x1024_d2 h_S_ j).1),
    TRef.quaternary x φ.v0 φ.cst φ.c φ.v1_1 (fun x y u v j => (Host.argReduce reducer_argmin_f32_i32 x y u v reducesTo_S4x1024x2048_S4x1024_d2 h_S_ j).2) ]

/-- The operations of one call of @_take. -/
abbrev takeOps (x : TF S2048x128) (c : TI S4x1024) (φ : fn_take.Bufs) : List (HloOp τ sig (Elt F)) :=
  [
    TRef.nullary φ.c (constantI S_ 32 0#32),
    TRef.unary φ.c φ.v0 (broadcastInDim S4x1024 ![] bcast_S_S4x1024),
    TRef.binary c φ.v0 φ.v1 (cmpi .slt),
    TRef.nullary φ.c_0 (constantI S_ 32 2048#32),
    TRef.unary φ.c_0 φ.v2 (broadcastInDim S4x1024 ![] bcast_S_S4x1024),
    TRef.binary c φ.v2 φ.v3 addi,
    TRef.ternary φ.v1 φ.v3 c φ.call0.v0 select,
    TRef.unary φ.call0.v0 φ.v5 (broadcastInDim S4x1024x1 ![0, 1] bcast_S4x1024_S4x1024x1_0_1),
    TRef.nullary φ.c_1 (constantI S1 32 2047#32),
    TRef.nullary φ.c_2 (constantI S_ 32 0#32),
    TRef.unary φ.c_2 φ.v6 (broadcastInDim S4x1024x1 ![] bcast_S_S4x1024x1),
    TRef.binary φ.v5 φ.v6 φ.v7 (cmpi .sge),
    TRef.unary φ.c_1 φ.v8 (broadcastInDim S1x1x1 ![2] bcast_S1_S1x1x1_2),
    TRef.unary φ.v8 φ.v9 (broadcastInDim S4x1024x1 ![0, 1, 2] bcast_S1x1x1_S4x1024x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S4x1024x1_S4x1024_d2 h_S_),
    TRef.binary x φ.v5 φ.v13 (fun x i => Host.gather gather_S2048x128_S4x1024x1_S4x1024x128_2_0_n_n_0_2_1128 x i),
    TRef.unary φ.v12 φ.v14 (broadcastInDim S4x1024x128 ![0, 1] bcast_S4x1024_S4x1024x128_0_1),
    TRef.nullary φ.cst (constant S_ .f32 0x7FC00000#32),
    TRef.unary φ.cst φ.v15 (broadcastInDim S4x1024x128 ![] bcast_S_S4x1024x128),
    TRef.ternary φ.v14 φ.v13 φ.v15 φ.v16 select ]

/-- One codebook's operations, from the residual's and the running sum's buffers. -/
abbrev bookOps (o : Fin 3 → ℕ) (ho : S8x2048x128.Slices o S1x2048x128) (R S : TF S4x128x1024) (B : Book) :
    List (HloOp τ sig (Elt F)) :=
  [ TRef.unary (.of main_arg5 : TF S8x2048x128) B.sl (extractStridedSlice S1x2048x128 o · ho),
    TRef.reshape B.sl B.e rfl shapeCasts_S1x2048x128_S2048x128,
    TRef.unary R B.rt (transpose S4x1024x128 [0, 2, 1] · transposes_S4x128x1024_S4x1024x128_0_2_1),
    TRef.binary B.rt B.rt B.rr mulf,
    TRef.nullary B.z0 (constant S_ .f32 0x00000000#32),
    TRef.binary B.rr B.z0 B.rs (fun x v => Host.reduceAdd x v reducesTo_S4x1024x128_S4x1024_d2 h_S_),
    TRef.unary B.rs B.rsb (broadcastInDim S4x1024x1 ![0, 1] bcast_S4x1024_S4x1024x1_0_1),
    TRef.binary B.e B.e B.ee mulf,
    TRef.nullary B.z1 (constant S_ .f32 0x00000000#32),
    TRef.binary B.ee B.z1 B.es (fun x v => Host.reduceAdd x v reducesTo_S2048x128_S2048_d1 h_S_),
    TRef.unary B.es B.esb (broadcastInDim S1x1x2048 ![2] bcast_S2048_S1x1x2048_2),
    TRef.unary B.rsb B.rsB (broadcastInDim S4x1024x2048 ![0, 1, 2] bcast_S4x1024x1_S4x1024x2048_0_1_2),
    TRef.unary B.esb B.esB (broadcastInDim S4x1024x2048 ![0, 1, 2] bcast_S1x1x2048_S4x1024x2048_0_1_2),
    TRef.binary B.rsB B.esB B.sm addf,
    TRef.unary B.e B.et (transpose S128x2048 [1, 0] · transposes_S2048x128_S128x2048_1_0),
    TRef.binary B.rt B.et B.dt (fun l r => Host.dotGeneral dot_S4x1024x128_S128x2048_S4x1024x2048_2_0_01_1_n_n none l r),
    TRef.nullary B.two (constant S_ .f32 0x40000000#32),
    TRef.unary B.two B.twoB (broadcastInDim S4x1024x2048 ![] bcast_S_S4x1024x2048),
    TRef.binary B.twoB B.dt B.dt2 mulf,
    TRef.binary B.sm B.dt2 B.dist subf ]
  ++ (argminOps B.dist B.amin ++ (takeOps B.e B.amin.v1_1 B.take ++
  [ TRef.unary B.take.v16 B.qT (transpose S4x128x1024 [0, 2, 1] · transposes_S4x1024x128_S4x128x1024_0_2_1),
    TRef.binary B.qT R B.dif subf,
    TRef.binary R B.dif B.qst addf,
    TRef.binary B.qT R B.df subf,
    TRef.binary B.df B.df B.dd mulf,
    TRef.nullary B.z2 (constant S_ .f32 0x00000000#32),
    TRef.binary B.dd B.z2 B.ss (fun x v => Host.reduceAdd x v reducesTo_S4x128x1024_S_d0_1_2 h_S_),
    TRef.nullary B.cn (constant S_ .f32 0x49000000#32),
    TRef.binary B.ss B.cn B.mse Host.divf,
    TRef.unary B.amin.v1_1 B.cod (broadcastInDim S4x1x1024 ![0, 2] bcast_S4x1024_S4x1x1024_0_2),
    TRef.binary S B.qst B.qs addf,
    TRef.binary R B.qst B.rn subf ]))

/-- The buffers of codebook 0's operations. -/
abbrev B0 : Book :=
  ⟨.of main_v8, .of main_v9, .of main_v10, .of main_v11, .of main_cst_0, .of main_v12, .of main_v13, .of main_v14, .of main_cst_1, .of main_v15, .of main_v16, .of main_v17, .of main_v18, .of main_v19,
   .of main_v20, .of main_v21, .of main_cst_2, .of main_v22, .of main_v23, .of main_v24, main_call0, main_call1, .of main_v27, .of main_v28, .of main_v29, .of main_v30, .of main_v31,
   .of main_cst_3, .of main_v32, .of main_cst_4, .of main_v33, .of main_v34, .of main_v35, .of main_v36⟩

/-- The buffers of codebook 1's operations. -/
abbrev B1 : Book :=
  ⟨.of main_v38, .of main_v39, .of main_v40, .of main_v41, .of main_cst_6, .of main_v42, .of main_v43, .of main_v44, .of main_cst_7, .of main_v45, .of main_v46, .of main_v47, .of main_v48, .of main_v49,
   .of main_v50, .of main_v51, .of main_cst_8, .of main_v52, .of main_v53, .of main_v54, main_call2, main_call3, .of main_v57, .of main_v58, .of main_v59, .of main_v60, .of main_v61,
   .of main_cst_9, .of main_v62, .of main_cst_10, .of main_v63, .of main_v64, .of main_v65, .of main_v66⟩

/-- The buffers of codebook 2's operations. -/
abbrev B2 : Book :=
  ⟨.of main_v68, .of main_v69, .of main_v70, .of main_v71, .of main_cst_11, .of main_v72, .of main_v73, .of main_v74, .of main_cst_12, .of main_v75, .of main_v76, .of main_v77, .of main_v78, .of main_v79,
   .of main_v80, .of main_v81, .of main_cst_13, .of main_v82, .of main_v83, .of main_v84, main_call4, main_call5, .of main_v87, .of main_v88, .of main_v89, .of main_v90, .of main_v91,
   .of main_cst_14, .of main_v92, .of main_cst_15, .of main_v93, .of main_v94, .of main_v95, .of main_v96⟩

/-- The buffers of codebook 3's operations. -/
abbrev B3 : Book :=
  ⟨.of main_v98, .of main_v99, .of main_v100, .of main_v101, .of main_cst_16, .of main_v102, .of main_v103, .of main_v104, .of main_cst_17, .of main_v105, .of main_v106, .of main_v107, .of main_v108, .of main_v109,
   .of main_v110, .of main_v111, .of main_cst_18, .of main_v112, .of main_v113, .of main_v114, main_call6, main_call7, .of main_v117, .of main_v118, .of main_v119, .of main_v120, .of main_v121,
   .of main_cst_19, .of main_v122, .of main_cst_20, .of main_v123, .of main_v124, .of main_v125, .of main_v126⟩

/-- The buffers of codebook 4's operations. -/
abbrev B4 : Book :=
  ⟨.of main_v128, .of main_v129, .of main_v130, .of main_v131, .of main_cst_21, .of main_v132, .of main_v133, .of main_v134, .of main_cst_22, .of main_v135, .of main_v136, .of main_v137, .of main_v138, .of main_v139,
   .of main_v140, .of main_v141, .of main_cst_23, .of main_v142, .of main_v143, .of main_v144, main_call8, main_call9, .of main_v147, .of main_v148, .of main_v149, .of main_v150, .of main_v151,
   .of main_cst_24, .of main_v152, .of main_cst_25, .of main_v153, .of main_v154, .of main_v155, .of main_v156⟩

/-- The buffers of codebook 5's operations. -/
abbrev B5 : Book :=
  ⟨.of main_v158, .of main_v159, .of main_v160, .of main_v161, .of main_cst_26, .of main_v162, .of main_v163, .of main_v164, .of main_cst_27, .of main_v165, .of main_v166, .of main_v167, .of main_v168, .of main_v169,
   .of main_v170, .of main_v171, .of main_cst_28, .of main_v172, .of main_v173, .of main_v174, main_call10, main_call11, .of main_v177, .of main_v178, .of main_v179, .of main_v180, .of main_v181,
   .of main_cst_29, .of main_v182, .of main_cst_30, .of main_v183, .of main_v184, .of main_v185, .of main_v186⟩

/-- The buffers of codebook 6's operations. -/
abbrev B6 : Book :=
  ⟨.of main_v188, .of main_v189, .of main_v190, .of main_v191, .of main_cst_31, .of main_v192, .of main_v193, .of main_v194, .of main_cst_32, .of main_v195, .of main_v196, .of main_v197, .of main_v198, .of main_v199,
   .of main_v200, .of main_v201, .of main_cst_33, .of main_v202, .of main_v203, .of main_v204, main_call12, main_call13, .of main_v207, .of main_v208, .of main_v209, .of main_v210, .of main_v211,
   .of main_cst_34, .of main_v212, .of main_cst_35, .of main_v213, .of main_v214, .of main_v215, .of main_v216⟩

/-- The buffers of codebook 7's operations. -/
abbrev B7 : Book :=
  ⟨.of main_v218, .of main_v219, .of main_v220, .of main_v221, .of main_cst_36, .of main_v222, .of main_v223, .of main_v224, .of main_cst_37, .of main_v225, .of main_v226, .of main_v227, .of main_v228, .of main_v229,
   .of main_v230, .of main_v231, .of main_cst_38, .of main_v232, .of main_v233, .of main_v234, main_call14, main_call15, .of main_v237, .of main_v238, .of main_v239, .of main_v240, .of main_v241,
   .of main_cst_39, .of main_v242, .of main_cst_40, .of main_v243, .of main_v244, .of main_v245, .of main_v246⟩

/-- The operations before the books: the projection in, and the zero running sum. -/
abbrev preOps : List (HloOp τ sig (Elt F)) :=
  [
    StableHlo.unary main_arg0 main_v0 ((transpose S4x1024x768 [0, 2, 1] · transposes_S4x768x1024_S4x1024x768_0_2_1) : (⟨S4x768x1024, .f32⟩ : BufTy).Contents (Elt F) → (⟨S4x1024x768, .f32⟩ : BufTy).Contents (Elt F)),
    StableHlo.unary main_arg1 main_v1 ((transpose S768x128 [1, 0] · transposes_S128x768_S768x128_1_0) : (⟨S128x768, .f32⟩ : BufTy).Contents (Elt F) → (⟨S768x128, .f32⟩ : BufTy).Contents (Elt F)),
    StableHlo.binary main_v0 main_v1 main_v2 ((fun l r => Host.dotGeneral dot_S4x1024x768_S768x128_S4x1024x128_2_0_01_1_n_n none l r) : (⟨S4x1024x768, .f32⟩ : BufTy).Contents (Elt F) → (⟨S768x128, .f32⟩ : BufTy).Contents (Elt F) → (⟨S4x1024x128, .f32⟩ : BufTy).Contents (Elt F)),
    StableHlo.unary main_arg2 main_v3 (broadcastInDim S1x1x128 ![2] bcast_S128_S1x1x128_2 : (⟨S128, .f32⟩ : BufTy).Contents (Elt F) → (⟨S1x1x128, .f32⟩ : BufTy).Contents (Elt F)),
    StableHlo.unary main_v3 main_v4 (broadcastInDim S4x1024x128 ![0, 1, 2] bcast_S1x1x128_S4x1024x128_0_1_2 : (⟨S1x1x128, .f32⟩ : BufTy).Contents (Elt F) → (⟨S4x1024x128, .f32⟩ : BufTy).Contents (Elt F)),
    StableHlo.binary main_v2 main_v4 main_v5 (addf : (⟨S4x1024x128, .f32⟩ : BufTy).Contents (Elt F) → (⟨S4x1024x128, .f32⟩ : BufTy).Contents (Elt F) → (⟨S4x1024x128, .f32⟩ : BufTy).Contents (Elt F)),
    StableHlo.unary main_v5 main_v6 ((transpose S4x128x1024 [0, 2, 1] · transposes_S4x1024x128_S4x128x1024_0_2_1) : (⟨S4x1024x128, .f32⟩ : BufTy).Contents (Elt F) → (⟨S4x128x1024, .f32⟩ : BufTy).Contents (Elt F)),
    StableHlo.nullary main_cst (constant S_ .f32 0x00000000#32),
    StableHlo.unary main_cst main_v7 (broadcastInDim S4x128x1024 ![] bcast_S_S4x128x1024 : (⟨S_, .f32⟩ : BufTy).Contents (Elt F) → (⟨S4x128x1024, .f32⟩ : BufTy).Contents (Elt F)) ]

/-- The running loss after codebook 0, and after a later one. -/
abbrev totOps0 : List (HloOp τ sig (Elt F)) :=
  [ TRef.nullary (.of main_cst_5 : TF S_) (constant S_ .f32 0x00000000#32),
    TRef.binary (.of main_cst_5 : TF S_) (.of main_v33 : TF S_) (.of main_v37 : TF S_) addf ]
@[inherit_doc totOps0]
abbrev totOps (x y z : TF S_) : List (HloOp τ sig (Elt F)) := [ TRef.binary x y z addf ]

/-- The operations after the books: the codes joined, the projection out, the loss. -/
abbrev postOps : List (HloOp τ sig (Elt F)) :=
  [
    StableHlo.nary ![main_v34, main_v64, main_v94, main_v124, main_v154, main_v184, main_v214, main_v244] main_v248 (fun u => (concatenate S4x8x1024 1 [⟨S4x1x1024, (u 0 : (⟨S4x1x1024, .i32⟩ : BufTy).Contents (Elt F))⟩, ⟨S4x1x1024, (u 1 : (⟨S4x1x1024, .i32⟩ : BufTy).Contents (Elt F))⟩, ⟨S4x1x1024, (u 2 : (⟨S4x1x1024, .i32⟩ : BufTy).Contents (Elt F))⟩, ⟨S4x1x1024, (u 3 : (⟨S4x1x1024, .i32⟩ : BufTy).Contents (Elt F))⟩, ⟨S4x1x1024, (u 4 : (⟨S4x1x1024, .i32⟩ : BufTy).Contents (Elt F))⟩, ⟨S4x1x1024, (u 5 : (⟨S4x1x1024, .i32⟩ : BufTy).Contents (Elt F))⟩, ⟨S4x1x1024, (u 6 : (⟨S4x1x1024, .i32⟩ : BufTy).Contents (Elt F))⟩, ⟨S4x1x1024, (u 7 : (⟨S4x1x1024, .i32⟩ : BufTy).Contents (Elt F))⟩] concatenates_S4x1x1024_S4x1x1024_S4x1x1024_S4x1x1024_S4x1x1024_S4x1x1024_S4x1x1024_S4x1x1024_S4x8x1024_d1 : (⟨S4x8x1024, .i32⟩ : BufTy).Contents (Elt F))),
    StableHlo.unary main_v245 main_v249 ((transpose S4x1024x128 [0, 2, 1] · transposes_S4x128x1024_S4x1024x128_0_2_1) : (⟨S4x128x1024, .f32⟩ : BufTy).Contents (Elt F) → (⟨S4x1024x128, .f32⟩ : BufTy).Contents (Elt F)),
    StableHlo.unary main_arg3 main_v250 ((transpose S128x768 [1, 0] · transposes_S768x128_S128x768_1_0) : (⟨S768x128, .f32⟩ : BufTy).Contents (Elt F) → (⟨S128x768, .f32⟩ : BufTy).Contents (Elt F)),
    StableHlo.binary main_v249 main_v250 main_v251 ((fun l r => Host.dotGeneral dot_S4x1024x128_S128x768_S4x1024x768_2_0_01_1_n_n none l r) : (⟨S4x1024x128, .f32⟩ : BufTy).Contents (Elt F) → (⟨S128x768, .f32⟩ : BufTy).Contents (Elt F) → (⟨S4x1024x768, .f32⟩ : BufTy).Contents (Elt F)),
    StableHlo.unary main_arg4 main_v252 (broadcastInDim S1x1x768 ![2] bcast_S768_S1x1x768_2 : (⟨S768, .f32⟩ : BufTy).Contents (Elt F) → (⟨S1x1x768, .f32⟩ : BufTy).Contents (Elt F)),
    StableHlo.unary main_v252 main_v253 (broadcastInDim S4x1024x768 ![0, 1, 2] bcast_S1x1x768_S4x1024x768_0_1_2 : (⟨S1x1x768, .f32⟩ : BufTy).Contents (Elt F) → (⟨S4x1024x768, .f32⟩ : BufTy).Contents (Elt F)),
    StableHlo.binary main_v251 main_v253 main_v254 (addf : (⟨S4x1024x768, .f32⟩ : BufTy).Contents (Elt F) → (⟨S4x1024x768, .f32⟩ : BufTy).Contents (Elt F) → (⟨S4x1024x768, .f32⟩ : BufTy).Contents (Elt F)),
    StableHlo.unary main_v254 main_v255 ((transpose S4x768x1024 [0, 2, 1] · transposes_S4x1024x768_S4x768x1024_0_2_1) : (⟨S4x1024x768, .f32⟩ : BufTy).Contents (Elt F) → (⟨S4x768x1024, .f32⟩ : BufTy).Contents (Elt F)),
    StableHlo.nullary main_cst_41 (constant S_ .f32 0x41000000#32),
    StableHlo.binary main_v247 main_cst_41 main_v256 (Host.divf : (⟨S_, .f32⟩ : BufTy).Contents (Elt F) → (⟨S_, .f32⟩ : BufTy).Contents (Elt F) → (⟨S_, .f32⟩ : BufTy).Contents (Elt F)) ]

/-- Codebook 0's stretch. -/
abbrev seg0 : List (HloOp τ sig (Elt F)) :=
  bookOps ![0, 0, 0] slices_S8x2048x128_S1x2048x128_0_0_0 (.of main_v6) (.of main_v7) B0 ++ totOps0

/-- Codebook 1's stretch. -/
abbrev seg1 : List (HloOp τ sig (Elt F)) :=
  bookOps ![1, 0, 0] slices_S8x2048x128_S1x2048x128_1_0_0 (.of main_v36) (.of main_v35) B1 ++ totOps (.of main_v37) (.of main_v63) (.of main_v67)

/-- Codebook 2's stretch. -/
abbrev seg2 : List (HloOp τ sig (Elt F)) :=
  bookOps ![2, 0, 0] slices_S8x2048x128_S1x2048x128_2_0_0 (.of main_v66) (.of main_v65) B2 ++ totOps (.of main_v67) (.of main_v93) (.of main_v97)

/-- Codebook 3's stretch. -/
abbrev seg3 : List (HloOp τ sig (Elt F)) :=
  bookOps ![3, 0, 0] slices_S8x2048x128_S1x2048x128_3_0_0 (.of main_v96) (.of main_v95) B3 ++ totOps (.of main_v97) (.of main_v123) (.of main_v127)

/-- Codebook 4's stretch. -/
abbrev seg4 : List (HloOp τ sig (Elt F)) :=
  bookOps ![4, 0, 0] slices_S8x2048x128_S1x2048x128_4_0_0 (.of main_v126) (.of main_v125) B4 ++ totOps (.of main_v127) (.of main_v153) (.of main_v157)

/-- Codebook 5's stretch. -/
abbrev seg5 : List (HloOp τ sig (Elt F)) :=
  bookOps ![5, 0, 0] slices_S8x2048x128_S1x2048x128_5_0_0 (.of main_v156) (.of main_v155) B5 ++ totOps (.of main_v157) (.of main_v183) (.of main_v187)

/-- Codebook 6's stretch. -/
abbrev seg6 : List (HloOp τ sig (Elt F)) :=
  bookOps ![6, 0, 0] slices_S8x2048x128_S1x2048x128_6_0_0 (.of main_v186) (.of main_v185) B6 ++ totOps (.of main_v187) (.of main_v213) (.of main_v217)

/-- Codebook 7's stretch. -/
abbrev seg7 : List (HloOp τ sig (Elt F)) :=
  bookOps ![7, 0, 0] slices_S8x2048x128_S1x2048x128_7_0_0 (.of main_v216) (.of main_v215) B7 ++ totOps (.of main_v217) (.of main_v243) (.of main_v247)

/-- @main's operations, in order. -/
abbrev ops : List (HloOp τ sig (Elt F)) :=
  preOps ++ (seg0 ++ (seg1 ++ (seg2 ++ (seg3 ++ (seg4 ++ (seg5 ++ (seg6 ++ (seg7 ++ postOps))))))))

set_option maxRecDepth 200000 in
set_option maxHeartbeats 4000000 in
/-- @main is that straight line. -/
theorem main_eq (c : Dev nD) : main (F := F) c = seq ops := rfl

end Cert.ReferenceIdeal.Hand

end
-- ==== Proof.Ssa.lean ====
/- A straight line in which every operation writes a buffer numbered above all that it reads and all that were written
   before: the contents it ends with are a fixed point of every one of its operations, so each operation is an equation
   between final contents. -/
module

public import proofs.«01_k».proof.Proof.RefOps

@[expose] public section

noncomputable section

namespace Cert.ReferenceIdeal.Hand

open Idealize.ShloMosaic Idealize.ShloMosaic.TcCoe Idealize.ShloMosaic.StableHlo Idealize.SL.Sem

variable {τ : Topo} {sig : RefSig} {Val : EltTy → Type}

/-- The contents agree on the buffers numbered below `k`. -/
def AgreeBelow (k : ℕ) (V W : Valuation τ sig Val) : Prop :=
  ∀ r : Ref sig .tc, r.idx.val < k → V (Proc.devRef .tc r) = W (Proc.devRef .tc r)

/-- The operation writes the TensorCores' buffer number `k`, from their buffers numbered below `k`. -/
def Good (k : ℕ) (op : HloOp τ sig Val) : Prop :=
  ∃ y : Ref sig .tc, op.writes = {Proc.devRef .tc y} ∧ y.idx.val = k ∧ (op.bufs ⊆ tcRefs τ sig ∧ op.fresh = ∅) ∧
    ∀ V W : Valuation τ sig Val, AgreeBelow k V W → op.result V (Proc.devRef .tc y) = op.result W (Proc.devRef .tc y)

/-- The operations write buffers `k + i`, `k + (i + 1)`, …, each from buffers numbered below its own. -/
def Ssa (k : ℕ) : ℕ → List (HloOp τ sig Val) → Prop
  | _, [] => True
  | i, op :: ops => Good (k + i) op ∧ Ssa k (i + 1) ops

/-- The contents satisfy the operation's equation. -/
def Fix (V : Valuation τ sig Val) (op : HloOp τ sig Val) : Prop := ∀ b ∈ op.writes, op.result V b = V b

/-- Such a line leaves the buffers numbered below its first alone. -/
theorem Ssa.agree {k i : ℕ} {ops : List (HloOp τ sig Val)} (h : Ssa k i ops) (V : Valuation τ sig Val) :
    AgreeBelow (k + i) (after ops V) V := by
  induction ops generalizing i V with
  | nil => exact fun _ _ => rfl
  | cons op ops ih =>
    intro r hr
    obtain ⟨⟨y, hw, hy, -, -⟩, hs⟩ := h
    rw [after_cons, ih hs _ r (Nat.lt_succ_of_lt hr)]
    refine op.result_of_not_mem V ?_
    rw [hw, Finset.mem_singleton]
    exact devRef_ne_of_ne fun e => by subst e; omega

/-- Its final contents satisfy every operation's equation. -/
theorem Ssa.fix {k i : ℕ} {ops : List (HloOp τ sig Val)} (h : Ssa k i ops) (V : Valuation τ sig Val) :
    ∀ op ∈ ops, Fix (after ops V) op := by
  induction ops generalizing i V with
  | nil => exact fun _ h => nomatch h
  | cons op ops ih =>
    intro o ho
    obtain ⟨⟨y, hw, hy, -, hc⟩, hs⟩ := h
    rcases List.mem_cons.mp ho with rfl | ho
    · intro b hb
      rw [hw, Finset.mem_singleton] at hb
      subst hb
      have hle : AgreeBelow (k + (i + 1)) (after (o :: ops) V) (o.result V) := fun r hr => hs.agree _ r hr
      rw [hle y (by omega)]
      refine hc _ _ fun r hr => ?_
      rw [hle r (Nat.lt_succ_of_lt hr)]
      refine o.result_of_not_mem V ?_
      rw [hw, Finset.mem_singleton]
      exact devRef_ne_of_ne fun e => by subst e; omega
    · exact ih hs _ o ho

theorem Ssa.append {k n i j : ℕ} {a b : List (HloOp τ sig Val)} (ha : Ssa k i a) (hb : Ssa n j b)
    (hn : k + i + a.length = n + j) : Ssa k i (a ++ b) := by
  induction a generalizing i with
  | nil =>
    clear ha
    induction b generalizing i j with
    | nil => trivial
    | cons op b ih =>
      have e : k + i = n + j := hn
      exact ⟨e ▸ hb.1, ih (i := i + 1) hb.2 (by simp only [List.length_nil]; omega)⟩
  | cons op a ih => exact ⟨ha.1, ih ha.2 (by rw [← hn, List.length_cons]; omega)⟩

/-- Its operations touch the TensorCores' buffers only and determine what they write. -/
theorem Ssa.plain {k i : ℕ} {ops : List (HloOp τ sig Val)} (h : Ssa k i ops) :
    ∀ op ∈ ops, op.bufs ⊆ tcRefs τ sig ∧ op.fresh = ∅ := by
  induction ops generalizing i with
  | nil => exact fun _ h => nomatch h
  | cons op ops ih =>
    obtain ⟨⟨_, _, _, hp, _⟩, hs⟩ := h
    exact List.forall_mem_cons.mpr ⟨hp, ih hs⟩

section Builders

variable {x a b c e y : Ref sig .tc} {k : ℕ}

theorem good_nullary (v : y.ty.Contents Val) (hy) (h : y.idx.val = k) :
    Good k (nullary (τ := τ) y v hy) :=
  ⟨y, rfl, h, ⟨nullary_bufs_sub .., rfl⟩, fun _ _ _ => by rw [nullary_result, nullary_result]⟩

theorem good_unary (f : x.ty.Contents Val → y.ty.Contents Val) (hx hy) (h : y.idx.val = k) (h1 : x.idx.val < k) :
    Good k (unary (τ := τ) x y f hx hy) :=
  ⟨y, rfl, h, ⟨unary_bufs_sub .., rfl⟩, fun _ _ g => by rw [unary_result, unary_result, g x h1]⟩

theorem good_binary (f : a.ty.Contents Val → b.ty.Contents Val → y.ty.Contents Val) (ha hb hy) (h : y.idx.val = k)
    (h1 : a.idx.val < k) (h2 : b.idx.val < k) : Good k (binary (τ := τ) a b y f ha hb hy) :=
  ⟨y, rfl, h, ⟨binary_bufs_sub .., rfl⟩, fun _ _ g => by rw [binary_result, binary_result, g a h1, g b h2]⟩

theorem good_ternary (f : c.ty.Contents Val → a.ty.Contents Val → b.ty.Contents Val → y.ty.Contents Val) (hc ha hb hy)
    (h : y.idx.val = k) (h1 : c.idx.val < k) (h2 : a.idx.val < k) (h3 : b.idx.val < k) :
    Good k (ternary (τ := τ) c a b y f hc ha hb hy) :=
  ⟨y, rfl, h, ⟨ternary_bufs_sub .., rfl⟩, fun _ _ g => by rw [ternary_result, ternary_result, g a h2, g b h3, g c h1]⟩

theorem good_quaternary
    (f : a.ty.Contents Val → b.ty.Contents Val → c.ty.Contents Val → e.ty.Contents Val → y.ty.Contents Val)
    (ha hb hc he hy) (h : y.idx.val = k) (h1 : a.idx.val < k) (h2 : b.idx.val < k) (h3 : c.idx.val < k)
    (h4 : e.idx.val < k) : Good k (quaternary (τ := τ) a b c e y f ha hb hc he hy) :=
  ⟨y, rfl, h, ⟨quaternary_bufs_sub .., rfl⟩, fun _ _ g => by rw [quaternary_result, quaternary_result, g a h1, g b h2, g c h3, g e h4]⟩

theorem good_reshape (he hn hx hy) (h : y.idx.val = k) (h1 : x.idx.val < k) :
    Good k (reshape (τ := τ) (Val := Val) x y he hn hx hy) :=
  ⟨y, rfl, h, ⟨reshape_bufs_sub .., rfl⟩, fun _ _ g => by rw [reshape_result, reshape_result, g x h1]⟩

theorem good_nary {n : ℕ} (xs : Fin n → Ref sig .tc) (f : ((i : Fin n) → (xs i).ty.Contents Val) → y.ty.Contents Val)
    (hxs hy) (h : y.idx.val = k) (h1 : ∀ i, (xs i).idx.val < k) : Good k (nary (τ := τ) xs y f hxs hy) :=
  ⟨y, rfl, h, ⟨nary_bufs_sub .., rfl⟩, fun V W g => by
    rw [nary_result, nary_result]
    exact congrArg f (funext fun i => g (xs i) (h1 i))⟩

end Builders

/-! ## An operation's equation -/

section Fix

variable {x a b y : Ref sig .tc} {V : Valuation τ sig Val}

theorem fix_nullary {v : y.ty.Contents Val} {hy} (h : Fix V (nullary (τ := τ) y v hy)) : V (Proc.devRef .tc y) = v := by
  rw [← h _ (Finset.mem_singleton_self _), nullary_result]

theorem fix_unary {f : x.ty.Contents Val → y.ty.Contents Val} {hx hy} (h : Fix V (unary (τ := τ) x y f hx hy)) :
    V (Proc.devRef .tc y) = f (V (Proc.devRef .tc x)) := by
  rw [← h _ (Finset.mem_singleton_self _), unary_result]

theorem fix_binary {f : a.ty.Contents Val → b.ty.Contents Val → y.ty.Contents Val} {ha hb hy}
    (h : Fix V (binary (τ := τ) a b y f ha hb hy)) :
    V (Proc.devRef .tc y) = f (V (Proc.devRef .tc a)) (V (Proc.devRef .tc b)) := by
  rw [← h _ (Finset.mem_singleton_self _), binary_result]

theorem fix_nary {n : ℕ} {xs : Fin n → Ref sig .tc} {f : ((i : Fin n) → (xs i).ty.Contents Val) → y.ty.Contents Val}
    {hxs hy} (h : Fix V (nary (τ := τ) xs y f hxs hy)) :
    V (Proc.devRef .tc y) = f fun i => V (Proc.devRef .tc (xs i)) := by
  rw [← h _ (Finset.mem_singleton_self _), nary_result]

end Fix

/-! ## An operation's equation over typed references -/

section Get

variable {T Tx Ta Tb Tc Te Ty : BufTy}

/-- What a typed reference's buffer holds. -/
def get (V : Valuation τ sig Val) (x : TRef sig T) : T.Contents Val := x.ofBuf (V (Proc.devRef .tc x.ref))

theorem ofBuf_toBuf (x : TRef sig T) (v : T.Contents Val) : x.ofBuf (x.toBuf v) = v := by
  obtain ⟨r, rfl, _, _⟩ := x; rfl

theorem get_nullary {V : Valuation τ sig Val} {y : TRef sig Ty} {v : Ty.Contents Val} (h : Fix V (TRef.nullary y v)) :
    get V y = v := by
  unfold get
  rw [← h _ (Finset.mem_singleton_self _), nullary_result, ofBuf_toBuf]

theorem get_unary {V : Valuation τ sig Val} {x : TRef sig Tx} {y : TRef sig Ty} {f : Tx.Contents Val → Ty.Contents Val}
    (h : Fix V (TRef.unary x y f)) : get V y = f (get V x) := by
  unfold get
  rw [← h _ (Finset.mem_singleton_self _), unary_result, ofBuf_toBuf]

theorem get_binary {V : Valuation τ sig Val} {a : TRef sig Ta} {b : TRef sig Tb} {y : TRef sig Ty}
    {f : Ta.Contents Val → Tb.Contents Val → Ty.Contents Val} (h : Fix V (TRef.binary a b y f)) :
    get V y = f (get V a) (get V b) := by
  unfold get
  rw [← h _ (Finset.mem_singleton_self _), binary_result, ofBuf_toBuf]

theorem get_ternary {V : Valuation τ sig Val} {c : TRef sig Tc} {a : TRef sig Ta} {b : TRef sig Tb} {y : TRef sig Ty}
    {f : Tc.Contents Val → Ta.Contents Val → Tb.Contents Val → Ty.Contents Val} (h : Fix V (TRef.ternary c a b y f)) :
    get V y = f (get V c) (get V a) (get V b) := by
  unfold get
  rw [← h _ (Finset.mem_singleton_self _), ternary_result, ofBuf_toBuf]

theorem get_quaternary {V : Valuation τ sig Val} {a : TRef sig Ta} {b : TRef sig Tb} {c : TRef sig Tc} {e : TRef sig Te}
    {y : TRef sig Ty} {f : Ta.Contents Val → Tb.Contents Val → Tc.Contents Val → Te.Contents Val → Ty.Contents Val}
    (h : Fix V (TRef.quaternary a b c e y f)) : get V y = f (get V a) (get V b) (get V c) (get V e) := by
  unfold get
  rw [← h _ (Finset.mem_singleton_self _), quaternary_result, ofBuf_toBuf]

theorem reshape_cast {s t : Shape} {el : EltTy} {A B : BufTy} (hA : A = ⟨s, el⟩) (hB : B = ⟨t, el⟩)
    (he : A.elt = B.elt) (hn : A.shape.ShapeCasts B.shape) (hn' : s.ShapeCasts t) (v : A.Contents Val) :
    cast (congrArg (fun U : BufTy => U.Contents Val) hB) (fun i => he ▸ shapeCast B.shape v hn i)
      = shapeCast t (cast (congrArg (fun U : BufTy => U.Contents Val) hA) v) hn' := by
  subst hA hB; rfl

theorem get_reshape {V : Valuation τ sig Val} {s t : Shape} {el : EltTy} {x : TRef sig ⟨s, el⟩} {y : TRef sig ⟨t, el⟩}
    {hn : s.ShapeCasts t} (h : Fix V (TRef.reshape x y rfl hn)) : get V y = shapeCast t (get V x) hn := by
  unfold get
  rw [← h _ (Finset.mem_singleton_self _), reshape_result]
  exact reshape_cast x.ty_eq y.ty_eq _ _ hn _

end Get

end Cert.ReferenceIdeal.Hand

end
-- ==== Proof.RefSsa.lean ====
/- The reference's operations write their buffers in order, each from earlier ones. -/
module

public import proofs.«01_k».proof.Proof.Ssa

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- A codebook's buffers are numbered from `k`, in the order of its operations. -/
def Book.At (k : ℕ) (B : Book) : Prop :=
  B.sl.ref.idx.val = k + 0 ∧ B.e.ref.idx.val = k + 1 ∧ B.rt.ref.idx.val = k + 2 ∧ B.rr.ref.idx.val = k + 3 ∧
  B.z0.ref.idx.val = k + 4 ∧ B.rs.ref.idx.val = k + 5 ∧ B.rsb.ref.idx.val = k + 6 ∧ B.ee.ref.idx.val = k + 7 ∧
  B.z1.ref.idx.val = k + 8 ∧ B.es.ref.idx.val = k + 9 ∧ B.esb.ref.idx.val = k + 10 ∧ B.rsB.ref.idx.val = k + 11
  ∧ B.esB.ref.idx.val = k + 12 ∧ B.sm.ref.idx.val = k + 13 ∧ B.et.ref.idx.val = k + 14 ∧ B.dt.ref.idx.val = k +
  15 ∧ B.two.ref.idx.val = k + 16 ∧ B.twoB.ref.idx.val = k + 17 ∧ B.dt2.ref.idx.val = k + 18 ∧
  B.dist.ref.idx.val = k + 19 ∧ B.amin.v0.ref.idx.val = k + 20 ∧ B.amin.cst.ref.idx.val = k + 21 ∧
  B.amin.c.ref.idx.val = k + 22 ∧ B.amin.v1_0.ref.idx.val = k + 23 ∧ B.amin.v1_1.ref.idx.val = k + 24 ∧
  B.take.c.ref.idx.val = k + 25 ∧ B.take.v0.ref.idx.val = k + 26 ∧ B.take.v1.ref.idx.val = k + 27 ∧
  B.take.c_0.ref.idx.val = k + 28 ∧ B.take.v2.ref.idx.val = k + 29 ∧ B.take.v3.ref.idx.val = k + 30 ∧
  B.take.call0.v0.ref.idx.val = k + 31 ∧ B.take.v5.ref.idx.val = k + 32 ∧ B.take.c_1.ref.idx.val = k + 33 ∧
  B.take.c_2.ref.idx.val = k + 34 ∧ B.take.v6.ref.idx.val = k + 35 ∧ B.take.v7.ref.idx.val = k + 36 ∧
  B.take.v8.ref.idx.val = k + 37 ∧ B.take.v9.ref.idx.val = k + 38 ∧ B.take.v10.ref.idx.val = k + 39 ∧
  B.take.v11.ref.idx.val = k + 40 ∧ B.take.c_3.ref.idx.val = k + 41 ∧ B.take.v12.ref.idx.val = k + 42 ∧
  B.take.v13.ref.idx.val = k + 43 ∧ B.take.v14.ref.idx.val = k + 44 ∧ B.take.cst.ref.idx.val = k + 45 ∧
  B.take.v15.ref.idx.val = k + 46 ∧ B.take.v16.ref.idx.val = k + 47 ∧ B.qT.ref.idx.val = k + 48 ∧
  B.dif.ref.idx.val = k + 49 ∧ B.qst.ref.idx.val = k + 50 ∧ B.df.ref.idx.val = k + 51 ∧ B.dd.ref.idx.val = k +
  52 ∧ B.z2.ref.idx.val = k + 53 ∧ B.ss.ref.idx.val = k + 54 ∧ B.cn.ref.idx.val = k + 55 ∧ B.mse.ref.idx.val = k
  + 56 ∧ B.cod.ref.idx.val = k + 57 ∧ B.qs.ref.idx.val = k + 58 ∧ B.rn.ref.idx.val = k + 59

instance (k : ℕ) (B : Book) : Decidable (Book.At k B) := by unfold Book.At; infer_instance

theorem lt_at {a k i j : ℕ} (h : a = k + i) (hij : i < j) : a < k + j := by omega

set_option maxHeartbeats 4000000 in
/-- A codebook's operations write their buffers in order, when the buffers are numbered so. -/
theorem book_ssa {k : ℕ} {o : Fin 3 → ℕ} {ho : S8x2048x128.Slices o S1x2048x128} {R S : TF S4x128x1024} {B : Book}
    (hArg : main_arg5.idx.val < k) (hR : R.ref.idx.val < k) (hS : S.ref.idx.val < k) (hB : B.At k) :
    Ssa k 0 (bookOps o ho R S B : List (HloOp τ sig (Elt F))) := by
  obtain ⟨
    h0, h1, h2, h3, h4, h5, h6, h7, h8, h9, h10, h11, h12, h13, h14, h15, h16, h17, h18, h19, h20, h21, h22,
    h23, h24, h25, h26, h27, h28, h29, h30, h31, h32, h33, h34, h35, h36, h37, h38, h39, h40, h41, h42, h43,
    h44, h45, h46, h47, h48, h49, h50, h51, h52, h53, h54, h55, h56, h57, h58, h59⟩ := hB
  exact ⟨good_unary _ _ _ h0 (lt_of_lt_of_le hArg (Nat.le_add_right _ _)),
    ⟨good_reshape _ _ _ _ h1 (lt_at h0 (by decide)),
    ⟨good_unary _ _ _ h2 (lt_of_lt_of_le hR (Nat.le_add_right _ _)),
    ⟨good_binary _ _ _ _ h3 (lt_at h2 (by decide)) (lt_at h2 (by decide)),
    ⟨good_nullary _ _ h4 ,
    ⟨good_binary _ _ _ _ h5 (lt_at h3 (by decide)) (lt_at h4 (by decide)),
    ⟨good_unary _ _ _ h6 (lt_at h5 (by decide)),
    ⟨good_binary _ _ _ _ h7 (lt_at h1 (by decide)) (lt_at h1 (by decide)),
    ⟨good_nullary _ _ h8 ,
    ⟨good_binary _ _ _ _ h9 (lt_at h7 (by decide)) (lt_at h8 (by decide)),
    ⟨good_unary _ _ _ h10 (lt_at h9 (by decide)),
    ⟨good_unary _ _ _ h11 (lt_at h6 (by decide)),
    ⟨good_unary _ _ _ h12 (lt_at h10 (by decide)),
    ⟨good_binary _ _ _ _ h13 (lt_at h11 (by decide)) (lt_at h12 (by decide)),
    ⟨good_unary _ _ _ h14 (lt_at h1 (by decide)),
    ⟨good_binary _ _ _ _ h15 (lt_at h2 (by decide)) (lt_at h14 (by decide)),
    ⟨good_nullary _ _ h16 ,
    ⟨good_unary _ _ _ h17 (lt_at h16 (by decide)),
    ⟨good_binary _ _ _ _ h18 (lt_at h17 (by decide)) (lt_at h15 (by decide)),
    ⟨good_binary _ _ _ _ h19 (lt_at h13 (by decide)) (lt_at h18 (by decide)),
    ⟨good_nullary _ _ h20 ,
    ⟨good_nullary _ _ h21 ,
    ⟨good_nullary _ _ h22 ,
    ⟨good_quaternary _ _ _ _ _ _ h23 (lt_at h19 (by decide)) (lt_at h20 (by decide)) (lt_at h21 (by decide)) (lt_at h22 (by decide)),
    ⟨good_quaternary _ _ _ _ _ _ h24 (lt_at h19 (by decide)) (lt_at h20 (by decide)) (lt_at h21 (by decide)) (lt_at h22 (by decide)),
    ⟨good_nullary _ _ h25 ,
    ⟨good_unary _ _ _ h26 (lt_at h25 (by decide)),
    ⟨good_binary _ _ _ _ h27 (lt_at h24 (by decide)) (lt_at h26 (by decide)),
    ⟨good_nullary _ _ h28 ,
    ⟨good_unary _ _ _ h29 (lt_at h28 (by decide)),
    ⟨good_binary _ _ _ _ h30 (lt_at h24 (by decide)) (lt_at h29 (by decide)),
    ⟨good_ternary _ _ _ _ _ h31 (lt_at h27 (by decide)) (lt_at h30 (by decide)) (lt_at h24 (by decide)),
    ⟨good_unary _ _ _ h32 (lt_at h31 (by decide)),
    ⟨good_nullary _ _ h33 ,
    ⟨good_nullary _ _ h34 ,
    ⟨good_unary _ _ _ h35 (lt_at h34 (by decide)),
    ⟨good_binary _ _ _ _ h36 (lt_at h32 (by decide)) (lt_at h35 (by decide)),
    ⟨good_unary _ _ _ h37 (lt_at h33 (by decide)),
    ⟨good_unary _ _ _ h38 (lt_at h37 (by decide)),
    ⟨good_binary _ _ _ _ h39 (lt_at h32 (by decide)) (lt_at h38 (by decide)),
    ⟨good_binary _ _ _ _ h40 (lt_at h36 (by decide)) (lt_at h39 (by decide)),
    ⟨good_nullary _ _ h41 ,
    ⟨good_binary _ _ _ _ h42 (lt_at h40 (by decide)) (lt_at h41 (by decide)),
    ⟨good_binary _ _ _ _ h43 (lt_at h1 (by decide)) (lt_at h32 (by decide)),
    ⟨good_unary _ _ _ h44 (lt_at h42 (by decide)),
    ⟨good_nullary _ _ h45 ,
    ⟨good_unary _ _ _ h46 (lt_at h45 (by decide)),
    ⟨good_ternary _ _ _ _ _ h47 (lt_at h44 (by decide)) (lt_at h43 (by decide)) (lt_at h46 (by decide)),
    ⟨good_unary _ _ _ h48 (lt_at h47 (by decide)),
    ⟨good_binary _ _ _ _ h49 (lt_at h48 (by decide)) (lt_of_lt_of_le hR (Nat.le_add_right _ _)),
    ⟨good_binary _ _ _ _ h50 (lt_of_lt_of_le hR (Nat.le_add_right _ _)) (lt_at h49 (by decide)),
    ⟨good_binary _ _ _ _ h51 (lt_at h48 (by decide)) (lt_of_lt_of_le hR (Nat.le_add_right _ _)),
    ⟨good_binary _ _ _ _ h52 (lt_at h51 (by decide)) (lt_at h51 (by decide)),
    ⟨good_nullary _ _ h53 ,
    ⟨good_binary _ _ _ _ h54 (lt_at h52 (by decide)) (lt_at h53 (by decide)),
    ⟨good_nullary _ _ h55 ,
    ⟨good_binary _ _ _ _ h56 (lt_at h54 (by decide)) (lt_at h55 (by decide)),
    ⟨good_unary _ _ _ h57 (lt_at h24 (by decide)),
    ⟨good_binary _ _ _ _ h58 (lt_of_lt_of_le hS (Nat.le_add_right _ _)) (lt_at h50 (by decide)),
    ⟨good_binary _ _ _ _ h59 (lt_of_lt_of_le hR (Nat.le_add_right _ _)) (lt_at h50 (by decide)), trivial⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- The stretches write their buffers in order. -/
theorem preOps_ssa : Ssa 6 0 (preOps : List (HloOp τ sig (Elt F))) :=
  ⟨good_unary _ _ _ rfl (by decide), good_unary _ _ _ rfl (by decide), good_binary _ _ _ _ rfl (by decide) (by decide),
    good_unary _ _ _ rfl (by decide), good_unary _ _ _ rfl (by decide), good_binary _ _ _ _ rfl (by decide) (by decide),
    good_unary _ _ _ rfl (by decide), good_nullary _ _ rfl, good_unary _ _ _ rfl (by decide), trivial⟩

theorem totOps0_ssa : Ssa 75 0 (totOps0 : List (HloOp τ sig (Elt F))) :=
  ⟨good_nullary _ _ rfl, good_binary _ _ _ _ rfl (by decide) (by decide), trivial⟩

theorem totOps_ssa {k : ℕ} {x y z : TF S_} (hx : x.ref.idx.val < k) (hy : y.ref.idx.val < k) (hz : z.ref.idx.val = k) :
    Ssa k 0 (totOps x y z : List (HloOp τ sig (Elt F))) :=
  ⟨good_binary _ _ _ _ hz hx hy, trivial⟩

theorem postOps_ssa : Ssa 504 0 (postOps : List (HloOp τ sig (Elt F))) :=
  ⟨good_nary _ _ _ _ rfl (by decide), good_unary _ _ _ rfl (by decide), good_unary _ _ _ rfl (by decide),
    good_binary _ _ _ _ rfl (by decide) (by decide), good_unary _ _ _ rfl (by decide), good_unary _ _ _ rfl (by decide),
    good_binary _ _ _ _ rfl (by decide) (by decide), good_unary _ _ _ rfl (by decide), good_nullary _ _ rfl,
    good_binary _ _ _ _ rfl (by decide) (by decide), trivial⟩

theorem seg0_ssa : Ssa 15 0 (seg0 : List (HloOp τ sig (Elt F))) :=
  (book_ssa (by decide) (by decide) (by decide) (by decide)).append totOps0_ssa rfl
theorem seg1_ssa : Ssa 77 0 (seg1 : List (HloOp τ sig (Elt F))) :=
  (book_ssa (by decide) (by decide) (by decide) (by decide)).append (totOps_ssa (k := 137) (by decide) (by decide) (by decide)) rfl
theorem seg2_ssa : Ssa 138 0 (seg2 : List (HloOp τ sig (Elt F))) :=
  (book_ssa (by decide) (by decide) (by decide) (by decide)).append (totOps_ssa (k := 198) (by decide) (by decide) (by decide)) rfl
theorem seg3_ssa : Ssa 199 0 (seg3 : List (HloOp τ sig (Elt F))) :=
  (book_ssa (by decide) (by decide) (by decide) (by decide)).append (totOps_ssa (k := 259) (by decide) (by decide) (by decide)) rfl
theorem seg4_ssa : Ssa 260 0 (seg4 : List (HloOp τ sig (Elt F))) :=
  (book_ssa (by decide) (by decide) (by decide) (by decide)).append (totOps_ssa (k := 320) (by decide) (by decide) (by decide)) rfl
theorem seg5_ssa : Ssa 321 0 (seg5 : List (HloOp τ sig (Elt F))) :=
  (book_ssa (by decide) (by decide) (by decide) (by decide)).append (totOps_ssa (k := 381) (by decide) (by decide) (by decide)) rfl
theorem seg6_ssa : Ssa 382 0 (seg6 : List (HloOp τ sig (Elt F))) :=
  (book_ssa (by decide) (by decide) (by decide) (by decide)).append (totOps_ssa (k := 442) (by decide) (by decide) (by decide)) rfl
theorem seg7_ssa : Ssa 443 0 (seg7 : List (HloOp τ sig (Elt F))) :=
  (book_ssa (by decide) (by decide) (by decide) (by decide)).append (totOps_ssa (k := 503) (by decide) (by decide) (by decide)) rfl

theorem ops_ssa : Ssa 6 0 (ops : List (HloOp τ sig (Elt F))) :=
  preOps_ssa.append (seg0_ssa.append (seg1_ssa.append (seg2_ssa.append (seg3_ssa.append (seg4_ssa.append (seg5_ssa.append (seg6_ssa.append (seg7_ssa.append postOps_ssa rfl) rfl) rfl) rfl) rfl) rfl) rfl) rfl) rfl

end Cert.ReferenceIdeal.Hand

end
-- ==== Proof.RefRun.lean ====
/- What each stretch of the reference's operations leaves in the buffers later stretches read, as functions of what the
   stretch finds; and what it leaves alone. -/
module

public import proofs.«01_k».proof.Proof.RefSsa

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- Codebook number `o 0`. -/
def bookE (o : Fin 3 → ℕ) (ho : S8x2048x128.Slices o S1x2048x128) (cb : FVec F S8x2048x128 .f32) : FVec F S2048x128 .f32 :=
  shapeCast S2048x128 (extractStridedSlice S1x2048x128 o cb ho) shapeCasts_S1x2048x128_S2048x128

/-- The distances of every token's residual to every codeword. -/
def rDist (E : FVec F S2048x128 .f32) (R : FVec F S4x128x1024 .f32) : FVec F S4x1024x2048 .f32 :=
  subf
    (addf
      (broadcastInDim S4x1024x2048 ![0, 1, 2] bcast_S4x1024x1_S4x1024x2048_0_1_2
        (broadcastInDim S4x1024x1 ![0, 1] bcast_S4x1024_S4x1024x1_0_1
          (Host.reduceAdd
            (mulf (transpose S4x1024x128 [0, 2, 1] R transposes_S4x128x1024_S4x1024x128_0_2_1)
              (transpose S4x1024x128 [0, 2, 1] R transposes_S4x128x1024_S4x1024x128_0_2_1))
            (constant S_ .f32 0x00000000#32) reducesTo_S4x1024x128_S4x1024_d2 h_S_)))
      (broadcastInDim S4x1024x2048 ![0, 1, 2] bcast_S1x1x2048_S4x1024x2048_0_1_2
        (broadcastInDim S1x1x2048 ![2] bcast_S2048_S1x1x2048_2
          (Host.reduceAdd (mulf E E) (constant S_ .f32 0x00000000#32) reducesTo_S2048x128_S2048_d1 h_S_))))
    (mulf (broadcastInDim S4x1024x2048 ![] bcast_S_S4x1024x2048 (constant S_ .f32 0x40000000#32))
      (Host.dotGeneral dot_S4x1024x128_S128x2048_S4x1024x2048_2_0_01_1_n_n none
        (transpose S4x1024x128 [0, 2, 1] R transposes_S4x128x1024_S4x1024x128_0_2_1)
        (transpose S128x2048 [1, 0] E transposes_S2048x128_S128x2048_1_0)))

/-- The codes: every token's first nearest codeword. -/
def rCode (D : FVec F S4x1024x2048 .f32) : IVec S4x1024 32 := fun j =>
  (Host.argReduce reducer_argmin_f32_i32 D (iotaInDim S4x1024x2048 32 2) (constant S_ .f32 0x7F800000#32)
    (constantI S_ 32 0#32) reducesTo_S4x1024x2048_S4x1024_d2 h_S_ j).2

/-- A code, a negative one counted from the end. -/
def rWrap (c : IVec S4x1024 32) : IVec S4x1024x1 32 :=
  broadcastInDim S4x1024x1 ![0, 1] bcast_S4x1024_S4x1024x1_0_1
    (select (cmpi .slt c (broadcastInDim S4x1024 ![] bcast_S_S4x1024 (constantI S_ 32 0#32)))
      (addi c (broadcastInDim S4x1024 ![] bcast_S_S4x1024 (constantI S_ 32 2048#32))) c)

/-- The codewords of the codes, with the fill value where a code is out of range. -/
def rTake (E : FVec F S2048x128 .f32) (c : IVec S4x1024 32) : FVec F S4x1024x128 .f32 :=
  select
    (broadcastInDim S4x1024x128 ![0, 1] bcast_S4x1024_S4x1024x128_0_1
      (Host.reduce IntOp.andi
        (andi (cmpi .sge (rWrap c) (broadcastInDim S4x1024x1 ![] bcast_S_S4x1024x1 (constantI S_ 32 0#32)))
          (cmpi .sle (rWrap c)
            (broadcastInDim S4x1024x1 ![0, 1, 2] bcast_S1x1x1_S4x1024x1_0_1_2
              (broadcastInDim S1x1x1 ![2] bcast_S1_S1x1x1_2 (constantI S1 32 2047#32)))))
        (constantI S_ 1 1#1) reducesTo_S4x1024x1_S4x1024_d2 h_S_))
    (Host.gather gather_S2048x128_S4x1024x1_S4x1024x128_2_0_n_n_0_2_1128 E (rWrap c))
    (broadcastInDim S4x1024x128 ![] bcast_S_S4x1024x128 (constant S_ .f32 0x7FC00000#32))

/-- The selected codewords, channels before tokens. -/
def rQ (E : FVec F S2048x128 .f32) (R : FVec F S4x128x1024 .f32) : FVec F S4x128x1024 .f32 :=
  transpose S4x128x1024 [0, 2, 1] (rTake E (rCode (rDist E R))) transposes_S4x1024x128_S4x128x1024_0_2_1

/-- The straight-through quantisation. -/
def rQst (E : FVec F S2048x128 .f32) (R : FVec F S4x128x1024 .f32) : FVec F S4x128x1024 .f32 :=
  addf R (subf (rQ E R) R)

/-- The mean squared error of one codebook. -/
def rMse (E : FVec F S2048x128 .f32) (R : FVec F S4x128x1024 .f32) : FVec F S_ .f32 :=
  Host.divf
    (Host.reduceAdd (mulf (subf (rQ E R) R) (subf (rQ E R) R)) (constant S_ .f32 0x00000000#32)
      reducesTo_S4x128x1024_S_d0_1_2 h_S_)
    (constant S_ .f32 0x49000000#32)

/-- The codes with a codebook axis. -/
def rCod (E : FVec F S2048x128 .f32) (R : FVec F S4x128x1024 .f32) : IVec S4x1x1024 32 :=
  broadcastInDim S4x1x1024 ![0, 2] bcast_S4x1024_S4x1x1024_0_2 (rCode (rDist E R))

/-- What one codebook's buffers hold when its operations' equations hold. -/
theorem book_get {V : Valuation τ sig (Elt F)} {o : Fin 3 → ℕ} {ho : S8x2048x128.Slices o S1x2048x128}
    {R S : TF S4x128x1024} {B : Book} (h : ∀ op ∈ (bookOps o ho R S B : List (HloOp τ sig (Elt F))), Fix V op) :
    get V B.rn = subf (get V R) (rQst (bookE o ho (V (main_arg5 : DevRef τ sig))) (get V R))
      ∧ get V B.qs = addf (get V S) (rQst (bookE o ho (V (main_arg5 : DevRef τ sig))) (get V R))
      ∧ get V B.mse = rMse (bookE o ho (V (main_arg5 : DevRef τ sig))) (get V R)
      ∧ get V B.cod = rCod (bookE o ho (V (main_arg5 : DevRef τ sig))) (get V R) := by
  simp only [bookOps, argminOps, takeOps, List.cons_append, List.nil_append, List.forall_mem_cons] at h
  obtain ⟨
      h0, h1, h2, h3, h4, h5, h6, h7, h8, h9, h10, h11, h12, h13, h14, h15, h16, h17, h18, h19, h20, h21, h22,
      h23, h24, h25, h26, h27, h28, h29, h30, h31, h32, h33, h34, h35, h36, h37, h38, h39, h40, h41, h42, h43,
      h44, h45, h46, h47, h48, h49, h50, h51, h52, h53, h54, h55, h56, h57, h58, h59, -⟩ := h
  have hE : get V B.e = bookE o ho (V (main_arg5 : DevRef τ sig)) := by
    rw [get_reshape h1, get_unary h0]; rfl
  have hD : get V B.dist = rDist (get V B.e) (get V R) := by
    simp only [
      get_unary h2, get_binary h3, get_nullary h4, get_binary h5, get_unary h6, get_binary h7, get_nullary h8,
      get_binary h9, get_unary h10, get_unary h11, get_unary h12, get_binary h13, get_unary h14, get_binary h15,
      get_nullary h16, get_unary h17, get_binary h18, get_binary h19]
    rfl
  have hC : get V B.amin.v1_1 = rCode (get V B.dist) := by
    simp only [
      get_nullary h20, get_nullary h21, get_nullary h22, get_quaternary h24]
    rfl
  have hT : get V B.take.v16 = rTake (get V B.e) (get V B.amin.v1_1) := by
    simp only [
      get_nullary h25, get_unary h26, get_binary h27, get_nullary h28, get_unary h29, get_binary h30,
      get_ternary h31, get_unary h32, get_nullary h33, get_nullary h34, get_unary h35, get_binary h36, get_unary
      h37, get_unary h38, get_binary h39, get_binary h40, get_nullary h41, get_binary h42, get_binary h43,
      get_unary h44, get_nullary h45, get_unary h46, get_ternary h47]
    rfl
  have hQ : get V B.qT = rQ (get V B.e) (get V R) := by
    rw [get_unary h48, hT, hC, hD]; rfl
  have hQst : get V B.qst = rQst (get V B.e) (get V R) := by
    rw [get_binary h50, get_binary h49, hQ]; rfl
  refine ⟨?_, ?_, ?_, ?_⟩
  · rw [get_binary h59, hQst, hE]
  · rw [get_binary h58, hQst, hE]
  · rw [get_binary h56, get_binary h54, get_binary h52, get_binary h51, get_nullary h53, get_nullary h55, hQ, hE]; rfl
  · rw [get_unary h57, hC, hD, hE]; rfl

/-! ## The whole line -/

/-- The projection in: the first residual. -/
def rIn (z : FVec F S4x768x1024 .f32) (w : FVec F S128x768 .f32) (b : FVec F S128 .f32) : FVec F S4x128x1024 .f32 :=
  transpose S4x128x1024 [0, 2, 1]
    (addf
      (Host.dotGeneral dot_S4x1024x768_S768x128_S4x1024x128_2_0_01_1_n_n none
        (transpose S4x1024x768 [0, 2, 1] z transposes_S4x768x1024_S4x1024x768_0_2_1)
        (transpose S768x128 [1, 0] w transposes_S128x768_S768x128_1_0))
      (broadcastInDim S4x1024x128 ![0, 1, 2] bcast_S1x1x128_S4x1024x128_0_1_2
        (broadcastInDim S1x1x128 ![2] bcast_S128_S1x1x128_2 b)))
    transposes_S4x1024x128_S4x128x1024_0_2_1

/-- The projection out of the summed codewords. -/
def rOut (q : FVec F S4x128x1024 .f32) (w : FVec F S768x128 .f32) (b : FVec F S768 .f32) : FVec F S4x768x1024 .f32 :=
  transpose S4x768x1024 [0, 2, 1]
    (addf
      (Host.dotGeneral dot_S4x1024x128_S128x768_S4x1024x768_2_0_01_1_n_n none
        (transpose S4x1024x128 [0, 2, 1] q transposes_S4x128x1024_S4x1024x128_0_2_1)
        (transpose S128x768 [1, 0] w transposes_S768x128_S128x768_1_0))
      (broadcastInDim S4x1024x768 ![0, 1, 2] bcast_S1x1x768_S4x1024x768_0_1_2
        (broadcastInDim S1x1x768 ![2] bcast_S768_S1x1x768_2 b)))
    transposes_S4x1024x768_S4x768x1024_0_2_1

/-- The codebooks in order. -/
def books (cb : FVec F S8x2048x128 .f32) : ℕ → FVec F S2048x128 .f32
  | 0 => bookE ![0, 0, 0] slices_S8x2048x128_S1x2048x128_0_0_0 cb
  | 1 => bookE ![1, 0, 0] slices_S8x2048x128_S1x2048x128_1_0_0 cb
  | 2 => bookE ![2, 0, 0] slices_S8x2048x128_S1x2048x128_2_0_0 cb
  | 3 => bookE ![3, 0, 0] slices_S8x2048x128_S1x2048x128_3_0_0 cb
  | 4 => bookE ![4, 0, 0] slices_S8x2048x128_S1x2048x128_4_0_0 cb
  | 5 => bookE ![5, 0, 0] slices_S8x2048x128_S1x2048x128_5_0_0 cb
  | 6 => bookE ![6, 0, 0] slices_S8x2048x128_S1x2048x128_6_0_0 cb
  | _ => bookE ![7, 0, 0] slices_S8x2048x128_S1x2048x128_7_0_0 cb

/-- The residual before codebook `i`. -/
def rRes (E : ℕ → FVec F S2048x128 .f32) (R : FVec F S4x128x1024 .f32) : ℕ → FVec F S4x128x1024 .f32
  | 0 => R
  | i + 1 => subf (rRes E R i) (rQst (E i) (rRes E R i))

/-- The summed codewords before codebook `i`. -/
def rSum (E : ℕ → FVec F S2048x128 .f32) (R : FVec F S4x128x1024 .f32) : ℕ → FVec F S4x128x1024 .f32
  | 0 => broadcastInDim S4x128x1024 ![] bcast_S_S4x128x1024 (constant S_ .f32 0x00000000#32)
  | i + 1 => addf (rSum E R i) (rQst (E i) (rRes E R i))

/-- The summed losses before codebook `i`. -/
def rTot (E : ℕ → FVec F S2048x128 .f32) (R : FVec F S4x128x1024 .f32) : ℕ → FVec F S_ .f32
  | 0 => constant S_ .f32 0x00000000#32
  | i + 1 => addf (rTot E R i) (rMse (E i) (rRes E R i))

/-- The codes of all eight codebooks. -/
def rCodes (E : ℕ → FVec F S2048x128 .f32) (R : FVec F S4x128x1024 .f32) : IVec S4x8x1024 32 :=
  concatenate S4x8x1024 1 [⟨S4x1x1024, rCod (E 0) (rRes E R 0)⟩, ⟨S4x1x1024, rCod (E 1) (rRes E R 1)⟩, ⟨S4x1x1024, rCod (E 2) (rRes E R 2)⟩, ⟨S4x1x1024, rCod (E 3) (rRes E R 3)⟩, ⟨S4x1x1024, rCod (E 4) (rRes E R 4)⟩, ⟨S4x1x1024, rCod (E 5) (rRes E R 5)⟩, ⟨S4x1x1024, rCod (E 6) (rRes E R 6)⟩, ⟨S4x1x1024, rCod (E 7) (rRes E R 7)⟩]
    concatenates_S4x1x1024_S4x1x1024_S4x1x1024_S4x1x1024_S4x1x1024_S4x1x1024_S4x1x1024_S4x1x1024_S4x8x1024_d1

/-- The line's final contents at the three results. -/
theorem ops_results (V : Valuation τ sig (Elt F)) :
    let E := books (V (main_arg5 : DevRef τ sig))
    let R := rIn (V (main_arg0 : DevRef τ sig)) (V (main_arg1 : DevRef τ sig)) (V (main_arg2 : DevRef τ sig))
    after ops V (main_v248 : DevRef τ sig) = rCodes E R
      ∧ after ops V (main_v255 : DevRef τ sig)
          = rOut (rSum E R 8) (V (main_arg3 : DevRef τ sig)) (V (main_arg4 : DevRef τ sig))
      ∧ after ops V (main_v256 : DevRef τ sig) = Host.divf (rTot E R 8) (constant S_ .f32 0x41000000#32) := by
  intro E R
  have ag := ops_ssa.agree V
  have F0 := ops_ssa.fix V
  have a0 := ag main_arg0 (by decide)
  have a1 := ag main_arg1 (by decide)
  have a2 := ag main_arg2 (by decide)
  have a3 := ag main_arg3 (by decide)
  have a4 := ag main_arg4 (by decide)
  have a5 := ag main_arg5 (by decide)
  generalize after ops V = W at ag F0 a0 a1 a2 a3 a4 a5 ⊢
  obtain ⟨fp, F0⟩ := List.forall_mem_append.mp F0
  obtain ⟨f0, F0⟩ := List.forall_mem_append.mp F0
  obtain ⟨b0, t0⟩ := List.forall_mem_append.mp f0
  obtain ⟨f1, F0⟩ := List.forall_mem_append.mp F0
  obtain ⟨b1, t1⟩ := List.forall_mem_append.mp f1
  obtain ⟨f2, F0⟩ := List.forall_mem_append.mp F0
  obtain ⟨b2, t2⟩ := List.forall_mem_append.mp f2
  obtain ⟨f3, F0⟩ := List.forall_mem_append.mp F0
  obtain ⟨b3, t3⟩ := List.forall_mem_append.mp f3
  obtain ⟨f4, F0⟩ := List.forall_mem_append.mp F0
  obtain ⟨b4, t4⟩ := List.forall_mem_append.mp f4
  obtain ⟨f5, F0⟩ := List.forall_mem_append.mp F0
  obtain ⟨b5, t5⟩ := List.forall_mem_append.mp f5
  obtain ⟨f6, F0⟩ := List.forall_mem_append.mp F0
  obtain ⟨b6, t6⟩ := List.forall_mem_append.mp f6
  obtain ⟨f7, fq⟩ := List.forall_mem_append.mp F0
  obtain ⟨b7, t7⟩ := List.forall_mem_append.mp f7
  simp only [preOps, List.forall_mem_cons] at fp
  obtain ⟨e0, e1, e2, e3, e4, e5, e6, e7, e8, -⟩ := fp
  have r0 : get W (.of main_v6 : TF S4x128x1024) = rRes E R 0 := by
    refine (fix_unary e6).trans ?_
    rw [fix_binary e5, fix_binary e2, fix_unary e0, fix_unary e1, fix_unary e4, fix_unary e3, a0, a1, a2]
    rfl
  have s0 : get W (.of main_v7 : TF S4x128x1024) = rSum E R 0 := by
    refine (fix_unary e8).trans ?_
    rw [fix_nullary e7]
    rfl
  have u0 : get W (.of main_cst_5 : TF S_) = rTot E R 0 := get_nullary (t0 _ (.head _))
  obtain ⟨p0, q0, m0, c0⟩ := book_get b0
  rw [a5, r0] at p0 q0 m0 c0
  rw [s0] at q0
  have u1 := get_binary (t0 _ (.tail _ (.head _)))
  rw [u0, m0] at u1
  have r1 : get W (.of main_v36 : TF S4x128x1024) = rRes E R 1 := p0
  have s1 : get W (.of main_v35 : TF S4x128x1024) = rSum E R 1 := q0
  replace u1 : get W (.of main_v37 : TF S_) = rTot E R 1 := u1
  obtain ⟨p1, q1, m1, c1⟩ := book_get b1
  rw [a5, r1] at p1 q1 m1 c1
  rw [s1] at q1
  have u2 := get_binary (t1 _ (.head _))
  rw [u1, m1] at u2
  have r2 : get W (.of main_v66 : TF S4x128x1024) = rRes E R 2 := p1
  have s2 : get W (.of main_v65 : TF S4x128x1024) = rSum E R 2 := q1
  replace u2 : get W (.of main_v67 : TF S_) = rTot E R 2 := u2
  obtain ⟨p2, q2, m2, c2⟩ := book_get b2
  rw [a5, r2] at p2 q2 m2 c2
  rw [s2] at q2
  have u3 := get_binary (t2 _ (.head _))
  rw [u2, m2] at u3
  have r3 : get W (.of main_v96 : TF S4x128x1024) = rRes E R 3 := p2
  have s3 : get W (.of main_v95 : TF S4x128x1024) = rSum E R 3 := q2
  replace u3 : get W (.of main_v97 : TF S_) = rTot E R 3 := u3
  obtain ⟨p3, q3, m3, c3⟩ := book_get b3
  rw [a5, r3] at p3 q3 m3 c3
  rw [s3] at q3
  have u4 := get_binary (t3 _ (.head _))
  rw [u3, m3] at u4
  have r4 : get W (.of main_v126 : TF S4x128x1024) = rRes E R 4 := p3
  have s4 : get W (.of main_v125 : TF S4x128x1024) = rSum E R 4 := q3
  replace u4 : get W (.of main_v127 : TF S_) = rTot E R 4 := u4
  obtain ⟨p4, q4, m4, c4⟩ := book_get b4
  rw [a5, r4] at p4 q4 m4 c4
  rw [s4] at q4
  have u5 := get_binary (t4 _ (.head _))
  rw [u4, m4] at u5
  have r5 : get W (.of main_v156 : TF S4x128x1024) = rRes E R 5 := p4
  have s5 : get W (.of main_v155 : TF S4x128x1024) = rSum E R 5 := q4
  replace u5 : get W (.of main_v157 : TF S_) = rTot E R 5 := u5
  obtain ⟨p5, q5, m5, c5⟩ := book_get b5
  rw [a5, r5] at p5 q5 m5 c5
  rw [s5] at q5
  have u6 := get_binary (t5 _ (.head _))
  rw [u5, m5] at u6
  have r6 : get W (.of main_v186 : TF S4x128x1024) = rRes E R 6 := p5
  have s6 : get W (.of main_v185 : TF S4x128x1024) = rSum E R 6 := q5
  replace u6 : get W (.of main_v187 : TF S_) = rTot E R 6 := u6
  obtain ⟨p6, q6, m6, c6⟩ := book_get b6
  rw [a5, r6] at p6 q6 m6 c6
  rw [s6] at q6
  have u7 := get_binary (t6 _ (.head _))
  rw [u6, m6] at u7
  have r7 : get W (.of main_v216 : TF S4x128x1024) = rRes E R 7 := p6
  have s7 : get W (.of main_v215 : TF S4x128x1024) = rSum E R 7 := q6
  replace u7 : get W (.of main_v217 : TF S_) = rTot E R 7 := u7
  obtain ⟨p7, q7, m7, c7⟩ := book_get b7
  rw [a5, r7] at p7 q7 m7 c7
  rw [s7] at q7
  have u8 := get_binary (t7 _ (.head _))
  rw [u7, m7] at u8
  have r8 : get W (.of main_v246 : TF S4x128x1024) = rRes E R 8 := p7
  have s8 : get W (.of main_v245 : TF S4x128x1024) = rSum E R 8 := q7
  replace u8 : get W (.of main_v247 : TF S_) = rTot E R 8 := u8
  simp only [postOps, List.forall_mem_cons] at fq
  obtain ⟨g0, g1, g2, g3, g4, g5, g6, g7, g8, g9, -⟩ := fq
  refine ⟨?_, ?_, ?_⟩
  · rw [fix_nary g0]
    show concatenate S4x8x1024 1 [⟨S4x1x1024, get W B0.cod⟩, ⟨S4x1x1024, get W B1.cod⟩, ⟨S4x1x1024, get W B2.cod⟩, ⟨S4x1x1024, get W B3.cod⟩, ⟨S4x1x1024, get W B4.cod⟩, ⟨S4x1x1024, get W B5.cod⟩, ⟨S4x1x1024, get W B6.cod⟩, ⟨S4x1x1024, get W B7.cod⟩] _ = _
    rw [c0, c1, c2, c3, c4, c5, c6, c7]
    rfl
  · rw [fix_unary g7, fix_binary g6, fix_binary g3, fix_unary g1, fix_unary g2, fix_unary g5, fix_unary g4, a3, a4]
    exact congrArg (fun q => rOut q (V (main_arg3 : DevRef τ sig)) (V (main_arg4 : DevRef τ sig))) s8
  · rw [fix_binary g9, fix_nullary g8]
    exact congrArg (fun x => Host.divf x (constant S_ .f32 0x41000000#32)) u8

theorem scopedRefs_eq : (Finset.univ.filter fun b : Ref sig .tc => b.isScoped) = ∅ := by decide
theorem scopedSems_eq : (Finset.univ.filter fun sm : SemLoc sig => sm.isScoped .tc) = ∅ := by decide

/-- The arguments' contents at launch, by number. -/
abbrev arg0 (m : (ℓ : Loc nD τ sig) → Buf (Elt F) ℓ) (c : Dev nD) : FVec F S4x768x1024 .f32 := m ((c.tc : Thread nD τ).loc main_arg0)
@[inherit_doc arg0]
abbrev arg1 (m : (ℓ : Loc nD τ sig) → Buf (Elt F) ℓ) (c : Dev nD) : FVec F S128x768 .f32 := m ((c.tc : Thread nD τ).loc main_arg1)
@[inherit_doc arg0]
abbrev arg2 (m : (ℓ : Loc nD τ sig) → Buf (Elt F) ℓ) (c : Dev nD) : FVec F S128 .f32 := m ((c.tc : Thread nD τ).loc main_arg2)
@[inherit_doc arg0]
abbrev arg3 (m : (ℓ : Loc nD τ sig) → Buf (Elt F) ℓ) (c : Dev nD) : FVec F S768x128 .f32 := m ((c.tc : Thread nD τ).loc main_arg3)
@[inherit_doc arg0]
abbrev arg4 (m : (ℓ : Loc nD τ sig) → Buf (Elt F) ℓ) (c : Dev nD) : FVec F S768 .f32 := m ((c.tc : Thread nD τ).loc main_arg4)
@[inherit_doc arg0]
abbrev arg5 (m : (ℓ : Loc nD τ sig) → Buf (Elt F) ℓ) (c : Dev nD) : FVec F S8x2048x128 .f32 := m ((c.tc : Thread nD τ).loc main_arg5)

/-- Every run of the reference ends with the results at these terms of the arguments, the arguments unchanged and every
    counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        (r.2.mem ((c.tc : Thread nD τ).loc main_v248)
            = rCodes (books (arg5 m c)) (rIn (arg0 m c) (arg1 m c) (arg2 m c))
          ∧ r.2.mem ((c.tc : Thread nD τ).loc main_v255)
            = rOut (rSum (books (arg5 m c)) (rIn (arg0 m c) (arg1 m c) (arg2 m c)) 8) (arg3 m c) (arg4 m c)
          ∧ r.2.mem ((c.tc : Thread nD τ).loc main_v256)
            = Host.divf (rTot (books (arg5 m c)) (rIn (arg0 m c) (arg1 m c) (arg2 m c)) 8) (constant S_ .f32 0x41000000#32))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 := by
  refine (θ_run defs _ _).mono (fun r h => ⟨fun c => ?_, ?_⟩)
    (run_seq scopedRefs_eq scopedSems_eq defs main (fun _ => ops) main_eq
      (fun _ => List.forall_iff_forall_mem.mpr fun op h => (ops_ssa.plain op h).1) m ρ
      (fun _ op h => (ops_ssa.plain op h).2))
  · have ag := ops_ssa.agree (launchContents m c)
    obtain ⟨x, y, z⟩ := ops_results (launchContents m c)
    exact ⟨⟨(h c main_v248).trans x, (h c main_v255).trans y, (h c main_v256).trans z⟩,
      (h c main_arg0).trans (ag main_arg0 (by decide)), (h c main_arg1).trans (ag main_arg1 (by decide)),
      (h c main_arg2).trans (ag main_arg2 (by decide)), (h c main_arg3).trans (ag main_arg3 (by decide)),
      (h c main_arg4).trans (ag main_arg4 (by decide)), (h c main_arg5).trans (ag main_arg5 (by decide))⟩
  · funext ⟨c, s⟩
    rcases s with i | i <;> exact i.elim0

end Cert.ReferenceIdeal.Hand

end
-- ==== Proof.RefIdeal.lean ====
/- The reference's arithmetic on finite values: each step of `RefRun` is the real one of `Spec`. -/
module

public import proofs.«01_k».proof.Proof.RefRun
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

theorem ofBits_two : Ideal.ofBits .f32 0x40000000#32 = ((2 : ℝ) : EReal) := by
  simp [Ideal.ofBits, Ideal.ieee]
  rw [← EReal.coe_mul]
  norm_num

theorem ofBits_count : Ideal.ofBits .f32 0x49000000#32 = ((524288 : ℝ) : EReal) := by
  simp [Ideal.ofBits, Ideal.ieee]
  rw [← EReal.coe_mul]
  norm_num

theorem ofBits_eight : Ideal.ofBits .f32 0x41000000#32 = ((8 : ℝ) : EReal) := by
  simp [Ideal.ofBits, Ideal.ieee]
  rw [← EReal.coe_mul]
  norm_num

theorem rDist_at (E : FVec Ideal S2048x128 .f32) (R : FVec Ideal S4x128x1024 .f32) (e : Fin 2048 → Fin 128 → ℝ)
    (ρ : Fin 128 → ℝ) (b : Fin 4) (n : Fin 1024) (k : Fin 2048) (hE : ∀ k j, E (ix2 k j) = (e k j : EReal))
    (hR : ∀ j, R (ix3 b j n) = (ρ j : EReal)) : rDist E R (ix3 b n k) = (Rvq.dist e ρ k : EReal) := by
  pointwise [rDist]
  simp only [hE, hR]
  rw [ofBits_two, Rvq.sum_mul_real, Rvq.sum_mul_real, Rvq.sum_mul_real, ← EReal.coe_add, ← EReal.coe_mul, ← EReal.coe_sub]
  rfl

/-- The search's choice of two pairs. -/
theorem reducer_eq (a b : Ideal .f32 × BitVec 32) : reducer_argmin_f32_i32 (F := Ideal) a b
    = if (a.1 : EReal) < b.1 ∨ ((a.1 : EReal) = b.1 ∧ a.2.toInt < b.2.toInt) then a else b := by
  obtain ⟨a1, a2⟩ := a
  obtain ⟨b1, b2⟩ := b
  change EReal at a1 b1
  have hlt : FloatOps.cmpf (F := Ideal) (φ := .f32) .olt a1 b1 = BitVec.ofBool (decide (a1 < b1)) := rfl
  have hne : FloatOps.cmpf (F := Ideal) (φ := .f32) .une a1 a1 = 0#1 := by simp [Ideal.cmpf_def, Ideal.cmp]
  have heq : FloatOps.cmpf (F := Ideal) (φ := .f32) .oeq a1 b1 = BitVec.ofBool (decide (a1 = b1)) := rfl
  have hs : IntOp.cmpi .slt a2 b2 = BitVec.ofBool (decide (a2.toInt < b2.toInt)) := rfl
  unfold reducer_argmin_f32_i32
  simp only [hlt, hne, heq, hs]
  by_cases h1 : a1 < b1
  · by_cases h2 : a1 = b1 <;> by_cases h3 : a2.toInt < b2.toInt <;> simp [h1, h2, h3, IntOp.ori, IntOp.andi, Scalar.select]
  · by_cases h2 : a1 = b1
    · subst h2
      by_cases h3 : a2.toInt < b2.toInt <;> simp [h3, IntOp.ori, IntOp.andi, Scalar.select]
    · by_cases h3 : a2.toInt < b2.toInt <;> simp [h1, h2, h3, IntOp.ori, IntOp.andi, Scalar.select]

/-- The least value and its index are chosen over every other pair. -/
theorem reducer_best (f : Fin 2048 → ℝ) (k : Fin 2048) :
    (((f k : EReal), BitVec.ofNat 32 k) : Ideal .f32 × BitVec 32) = ((f (Rvq.first f) : EReal), BitVec.ofNat 32 (Rvq.first f))
      ∨ (reducer_argmin_f32_i32 (F := Ideal) ((f (Rvq.first f) : EReal), BitVec.ofNat 32 (Rvq.first f)) ((f k : EReal), BitVec.ofNat 32 k)
          = ((f (Rvq.first f) : EReal), BitVec.ofNat 32 (Rvq.first f))
        ∧ reducer_argmin_f32_i32 (F := Ideal) ((f k : EReal), BitVec.ofNat 32 k) ((f (Rvq.first f) : EReal), BitVec.ofNat 32 (Rvq.first f))
          = ((f (Rvq.first f) : EReal), BitVec.ofNat 32 (Rvq.first f))) := by
  by_cases hk : k = Rvq.first f
  · exact .inl (by rw [← hk])
  · refine .inr ?_
    rw [reducer_eq, reducer_eq]
    simp only [EReal.coe_lt_coe_iff, EReal.coe_eq_coe_iff, Rvq.ofNat_toInt _ k.isLt.le, Rvq.ofNat_toInt _ (Rvq.first f).isLt.le]
    rcases Rvq.first_lt f hk with h | ⟨h, h'⟩
    · refine ⟨if_pos (.inl h), if_neg ?_⟩
      rintro (g | g)
      · exact lt_asymm h g
      · exact h.ne g.1.symm
    · have h'' : (Rvq.first f : ℕ) < (k : ℕ) := h'
      refine ⟨if_pos (.inr ⟨h, by exact_mod_cast h''⟩), if_neg ?_⟩
      rintro (g | g)
      · exact g.ne h.symm
      · have := g.2
        omega

theorem drop_eq (i : S4x1024x2048.Idx) (b : Fin 4) (n : Fin 1024)
    (h : reducesTo_S4x1024x2048_S4x1024_d2.drop i = ix2 b n) : i = ix3 b n (i 2) := by
  funext a
  match a with
  | ⟨0, _⟩ => exact Fin.ext (congrArg Fin.val (congrFun h 0))
  | ⟨1, _⟩ => exact Fin.ext (congrArg Fin.val (congrFun h 1))
  | ⟨2, _⟩ => rfl

theorem drop_ix (b : Fin 4) (n : Fin 1024) (k : Fin 2048) :
    reducesTo_S4x1024x2048_S4x1024_d2.drop (ix3 b n k) = (ix2 b n : S4x1024.Idx) := by
  funext a
  match a with
  | ⟨0, _⟩ => rfl
  | ⟨1, _⟩ => rfl

theorem rCode_at (D : FVec Ideal S4x1024x2048 .f32) (f : Fin 2048 → ℝ) (b : Fin 4) (n : Fin 1024)
    (hD : ∀ k, D (ix3 b n k) = (f k : EReal)) : rCode D (ix2 b n) = BitVec.ofNat 32 (Rvq.first f) := by
  have hit : ∀ k : Fin 2048, iotaInDim S4x1024x2048 32 2 (ix3 b n k) = BitVec.ofNat 32 k := fun k => rfl
  have ht : (constant (F := Ideal) S_ .f32 0x7F800000#32) (Shape.Idx.first h_S_) = (⊤ : EReal) := by
    show Ideal.ofBits .f32 0x7F800000#32 = _
    simp [Ideal.ofBits, Ideal.ieee]
  refine Rvq.search_best (φ := .f32) (reducer_argmin_f32_i32 (F := Ideal)) D (iotaInDim S4x1024x2048 32 2)
    (constant (F := Ideal) S_ .f32 0x7F800000#32) (constantI S_ 32 0#32) reducesTo_S4x1024x2048_S4x1024_d2 h_S_ (rCode D) rfl
    (ix2 b n) ((f (Rvq.first f) : EReal), BitVec.ofNat 32 (Rvq.first f)) (fun x y => ?_) ?_
    (fun i hi => ?_) (ix3 b n (Rvq.first f)) (drop_ix b n _) (by rw [hD, hit])
  · rw [reducer_eq]; split
    · exact .inl rfl
    · exact .inr rfl
  · rw [ht, reducer_eq, reducer_eq]
    refine ⟨if_pos (.inl (EReal.coe_lt_top _)), if_neg ?_⟩
    rintro (h | h)
    · exact not_top_lt h
    · exact (EReal.coe_ne_top _) h.1.symm
  · obtain ⟨k, rfl⟩ : ∃ k : Fin 2048, i = ix3 b n k := ⟨i 2, drop_eq i b n hi⟩
    rw [hD, hit]
    exact reducer_best f _

/-- A row of the codebook, gathered. -/
theorem gather_at (E : FVec Ideal S2048x128 .f32) (c : IVec S4x1024x1 32) (b : Fin 4) (n : Fin 1024) (j : Fin 128)
    (q : Fin 2048) (hc : c (ix3 b n 0) = BitVec.ofNat 32 q) :
    Host.gather gather_S2048x128_S4x1024x1_S4x1024x128_2_0_n_n_0_2_1128 E c (ix3 b n j) = E (ix2 q j) := by
  unfold Host.gather
  refine congrArg E (funext fun a => Fin.ext ?_)
  match a with
  | ⟨0, _⟩ =>
    show GatherDims.start gather_S2048x128_S4x1024x1_S4x1024x128_2_0_n_n_0_2_1128 (ix3 b n j) c 0
      + GatherDims.batchCoord gather_S2048x128_S4x1024x1_S4x1024x128_2_0_n_n_0_2_1128 (ix3 b n j) 0
      + GatherDims.offCoord gather_S2048x128_S4x1024x1_S4x1024x128_2_0_n_n_0_2_1128 (ix3 b n j) 0 = _
    rw [GatherDims.batchCoord_eq_zero _ _ _ (by decide), GatherDims.offCoord_eq_zero _ _ _ (by decide)]
    simp only [Nat.add_zero]
    unfold GatherDims.start
    rw [dif_pos (by decide)]
    have hs : GatherDims.siIdx gather_S2048x128_S4x1024x1_S4x1024x128_2_0_n_n_0_2_1128 (ix3 b n j) ⟨0, by decide⟩ = ix3 b n 0 := by
      funext d
      match d with
      | ⟨0, _⟩ => rfl
      | ⟨1, _⟩ => rfl
      | ⟨2, _⟩ => rfl
    refine (congrArg (fun v => min (BitVec.toInt (c v)).toNat (2048 - 1)) hs).trans ?_
    have := q.isLt
    rw [hc, Rvq.ofNat_toInt _ q.isLt.le]
    show min ((q : ℕ) : ℤ).toNat (2048 - 1) = (q : ℕ)
    omega
  | ⟨1, _⟩ =>
    show GatherDims.start gather_S2048x128_S4x1024x1_S4x1024x128_2_0_n_n_0_2_1128 (ix3 b n j) c 1
      + GatherDims.batchCoord gather_S2048x128_S4x1024x1_S4x1024x128_2_0_n_n_0_2_1128 (ix3 b n j) 1
      + GatherDims.offCoord gather_S2048x128_S4x1024x1_S4x1024x128_2_0_n_n_0_2_1128 (ix3 b n j) 1 = _
    rw [GatherDims.batchCoord_eq_zero _ _ _ (by decide)]
    unfold GatherDims.start GatherDims.offCoord
    rw [dif_neg (by decide), dif_pos (by decide)]
    simp only [Nat.zero_add, Nat.add_zero]
    rfl

theorem rTake_at (E : FVec Ideal S2048x128 .f32) (c : IVec S4x1024 32) (b : Fin 4) (n : Fin 1024) (j : Fin 128)
    (q : Fin 2048) (hc : c (ix2 b n) = BitVec.ofNat 32 q) : rTake E c (ix3 b n j) = E (ix2 q j) := by
  have hq := q.isLt
  have hi := Rvq.ofNat_toInt _ q.isLt.le
  have hw : ∀ x : Fin 1, rWrap c (ix3 b n x) = BitVec.ofNat 32 q := fun x => by
    pointwise [rWrap]
    rw [hc, show IntOp.cmpi CmpIPredicate.slt (BitVec.ofNat 32 (q : ℕ)) 0#32 = 0#1 from by
      show BitVec.ofBool (decide ((BitVec.ofNat 32 (q : ℕ)).toInt < 0)) = _
      rw [hi, decide_eq_false (by omega)]
      rfl]
    rfl
  pointwise [rTake]
  simp only [hw]
  rw [show IntOp.cmpi CmpIPredicate.sge (BitVec.ofNat 32 (q : ℕ)) 0#32 = 1#1 from by
      show BitVec.ofBool (decide (0 ≤ (BitVec.ofNat 32 (q : ℕ)).toInt)) = _
      rw [hi, decide_eq_true (by omega)]
      rfl,
    show IntOp.cmpi CmpIPredicate.sle (BitVec.ofNat 32 (q : ℕ)) 2047#32 = 1#1 from by
      show BitVec.ofBool (decide ((BitVec.ofNat 32 (q : ℕ)).toInt ≤ 2047)) = _
      rw [hi, decide_eq_true (by omega)]
      rfl,
    gather_at E _ b n j q (hw 0)]
  simp [Scalar.select, IntOp.andi]

/-! ## The projections, the codebooks and the codes -/

theorem rIn_at (z : FVec Ideal S4x768x1024 .f32) (w : FVec Ideal S128x768 .f32) (c : FVec Ideal S128 .f32) (b : Fin 4)
    (j : Fin 128) (n : Fin 1024) :
    rIn z w c (ix3 b j n) = ∑ k : Fin 768, z (ix3 b k n) * w (ix2 j k) + c (ix1 j) := by
  pointwise [rIn]

theorem rOut_at (q : FVec Ideal S4x128x1024 .f32) (w : FVec Ideal S768x128 .f32) (c : FVec Ideal S768 .f32) (b : Fin 4)
    (j : Fin 768) (n : Fin 1024) :
    rOut q w c (ix3 b j n) = ∑ k : Fin 128, q (ix3 b k n) * w (ix2 j k) + c (ix1 j) := by
  pointwise [rOut]

theorem books_at (cb : FVec Ideal S8x2048x128 .f32) (i : Fin 8) (k : Fin 2048) (j : Fin 128) :
    books cb i (ix2 k j) = cb (ix3 i k j) := by
  match i with
  | 0 | 1 | 2 | 3 | 4 | 5 | 6 | 7 => pointwise [books, bookE]

theorem stack_at (f : Fin 8 → IVec S4x1x1024 32) (b : Fin 4) (i : Fin 8) (n : Fin 1024) :
    concatenate S4x8x1024 1 [⟨S4x1x1024, f 0⟩, ⟨S4x1x1024, f 1⟩, ⟨S4x1x1024, f 2⟩, ⟨S4x1x1024, f 3⟩, ⟨S4x1x1024, f 4⟩,
      ⟨S4x1x1024, f 5⟩, ⟨S4x1x1024, f 6⟩, ⟨S4x1x1024, f 7⟩]
      concatenates_S4x1x1024_S4x1x1024_S4x1x1024_S4x1x1024_S4x1x1024_S4x1x1024_S4x1x1024_S4x1x1024_S4x8x1024_d1 (ix3 b i n)
      = f i (ix3 b 0 n) := by
  pointwise
  match i with
  | 0 | 1 | 2 | 3 | 4 | 5 | 6 | 7 => rfl

theorem cod_at (c : IVec S4x1024 32) (b : Fin 4) (n : Fin 1024) :
    broadcastInDim S4x1x1024 ![0, 2] bcast_S4x1024_S4x1x1024_0_2 c (ix3 b 0 n) = c (ix2 b n) := by
  pointwise

theorem rCod_at (E : FVec Ideal S2048x128 .f32) (R : FVec Ideal S4x128x1024 .f32) (b : Fin 4) (n : Fin 1024) :
    rCod E R (ix3 b 0 n) = rCode (rDist E R) (ix2 b n) := by
  have e : rCod E R = broadcastInDim S4x1x1024 ![0, 2] bcast_S4x1024_S4x1x1024_0_2 (rCode (rDist E R)) := rfl
  rw [e]
  exact cod_at _ b n

theorem rCodes_at (E : ℕ → FVec Ideal S2048x128 .f32) (R : FVec Ideal S4x128x1024 .f32) (b : Fin 4) (i : Fin 8)
    (n : Fin 1024) : rCodes E R (ix3 b i n) = rCode (rDist (E i) (rRes E R i)) (ix2 b n) := by
  have e : rCodes E R = concatenate S4x8x1024 1 _ _ := rfl
  have h := stack_at (fun i : Fin 8 => rCod (E i) (rRes E R i)) b i n
  rw [← rCod_at, ← h]
  exact congrFun e _

/-! ## All the codebooks -/

section Books

variable {B : ℕ → FVec Ideal S2048x128 .f32} {R : FVec Ideal S4x128x1024 .f32} {E : ℕ → Fin 2048 → Fin 128 → ℝ}
  {ρ : Fin 4 → Fin 1024 → Fin 128 → ℝ}

/-- The codewords taken from a codebook. -/
theorem rQ_at (e : FVec Ideal S2048x128 .f32) (r : FVec Ideal S4x128x1024 .f32) (x : Fin 2048 → Fin 128 → ℝ)
    (σ : Fin 128 → ℝ) (b : Fin 4) (n : Fin 1024) (j : Fin 128) (he : ∀ k j, e (ix2 k j) = (x k j : EReal))
    (hr : ∀ j, r (ix3 b j n) = (σ j : EReal)) : rQ e r (ix3 b j n) = (x (Rvq.code x σ) j : EReal) := by
  have hc := rCode_at (rDist e r) _ b n fun k => rDist_at e r x σ b n k he hr
  unfold rQ
  generalize rCode (rDist e r) = c at hc ⊢
  pointwise
  rw [rTake_at e c b n j _ hc, he]
  rfl

variable (hE : ∀ i < 8, ∀ k j, B i (ix2 k j) = (E i k j : EReal)) (hR : ∀ b j n, R (ix3 b j n) = (ρ b n j : EReal))
include hE hR

theorem rRes_at (i : ℕ) (hi : i ≤ 8) (b : Fin 4) (j : Fin 128) (n : Fin 1024) :
    rRes B R i (ix3 b j n) = (Rvq.res E (ρ b n) i j : EReal) := by
  induction i generalizing j with
  | zero => exact hR b j n
  | succ i ih =>
    have ih' := fun j => ih (by omega) j
    show rRes B R i (ix3 b j n) - (rRes B R i (ix3 b j n) + (rQ (B i) (rRes B R i) (ix3 b j n) - rRes B R i (ix3 b j n))) = _
    rw [rQ_at _ _ (E i) (Rvq.res E (ρ b n) i) b n j (hE i (by omega)) ih', ih', ← EReal.coe_sub, ← EReal.coe_add,
      ← EReal.coe_sub]
    refine congrArg _ ?_
    simp only [Rvq.res]
    ring

theorem rWord_at (i : ℕ) (hi : i < 8) (b : Fin 4) (j : Fin 128) (n : Fin 1024) :
    rQ (B i) (rRes B R i) (ix3 b j n) = (E i (Rvq.code (E i) (Rvq.res E (ρ b n) i)) j : EReal) :=
  rQ_at _ _ (E i) _ b n j (hE i hi) fun j => rRes_at hE hR i hi.le b j n

theorem rCodeOf_at (i : ℕ) (hi : i < 8) (b : Fin 4) (n : Fin 1024) :
    rCode (rDist (B i) (rRes B R i)) (ix2 b n) = BitVec.ofNat 32 (Rvq.code (E i) (Rvq.res E (ρ b n) i)) :=
  rCode_at _ _ b n fun k => rDist_at _ _ (E i) _ b n k (hE i hi) fun j => rRes_at hE hR i hi.le b j n

theorem rSum_at (i : ℕ) (hi : i ≤ 8) (b : Fin 4) (j : Fin 128) (n : Fin 1024) :
    rSum B R i (ix3 b j n) = (Rvq.acc E (ρ b n) i j : EReal) := by
  induction i with
  | zero => show Ideal.ofBits .f32 0x00000000#32 = _
            simp [Rvq.acc]
  | succ i ih =>
    show rSum B R i (ix3 b j n) + (rRes B R i (ix3 b j n) + (rQ (B i) (rRes B R i) (ix3 b j n) - rRes B R i (ix3 b j n))) = _
    rw [ih (by omega), rWord_at hE hR i (by omega), rRes_at hE hR i (by omega), ← EReal.coe_sub, ← EReal.coe_add,
      ← EReal.coe_add]
    refine congrArg _ ?_
    simp only [Rvq.acc]
    ring

theorem rMse_at (i : ℕ) (hi : i < 8) (x : S_.Idx) : rMse (B i) (rRes B R i) x
    = (((∑ b, ∑ j, ∑ n, Rvq.gap E (ρ b n) i j * Rvq.gap E (ρ b n) i j) / 524288 : ℝ) : EReal) := by
  have h1 := rWord_at hE hR i hi
  have h2 := rRes_at hE hR i hi.le
  unfold rMse
  generalize rQ (B i) (rRes B R i) = q at h1 ⊢
  generalize rRes B R i = r at h2 ⊢
  pointwise
  simp only [h1, h2, ← EReal.coe_sub, Rvq.sum_mul_real, Rvq.sum_real]
  rw [ofBits_count, Ideal.div_coe (by norm_num), ← EReal.coe_mul]
  refine congrArg _ ?_
  simp only [Rvq.gap]
  ring

theorem rTot_at (i : ℕ) (hi : i ≤ 8) (x : S_.Idx) : rTot B R i x
    = ((∑ a ∈ Finset.range i, (∑ b, ∑ j, ∑ n, Rvq.gap E (ρ b n) a j * Rvq.gap E (ρ b n) a j) / 524288 : ℝ) : EReal) := by
  induction i with
  | zero => show Ideal.ofBits .f32 0x00000000#32 = _
            simp
  | succ i ih =>
    show rTot B R i x + rMse (B i) (rRes B R i) x = _
    rw [ih (by omega), rMse_at hE hR i (by omega), Finset.sum_range_succ, EReal.coe_add]

end Books

end Cert.ReferenceIdeal.Hand
-- ==== Proof.RefVal.lean ====
/- The reference's three results, on finite inputs. -/
module

public import proofs.«01_k».proof.Proof.RefIdeal
public import proofs.«01_k».proof.Proof.Inputs

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {z : FVec Ideal S4x768x1024 .f32} {w : FVec Ideal S128x768 .f32} {c : FVec Ideal S128 .f32}
  {cb : FVec Ideal S8x2048x128 .f32} (hf : Rvq.Finite z w c cb)
include hf

theorem books_real (i : ℕ) (hi : i < 8) (k : Fin 2048) (j : Fin 128) :
    books cb i (ix2 k j) = (Rvq.books cb i k j : EReal) := by
  have e : (⟨i % 8, Nat.mod_lt _ (by decide)⟩ : Fin 8) = ⟨i, hi⟩ := Fin.ext (Nat.mod_eq_of_lt hi)
  rw [← hf.books_eq i k j, e]
  exact books_at cb ⟨i, hi⟩ k j

theorem toks_real (b : Fin 4) (j : Fin 128) (n : Fin 1024) :
    rIn z w c (ix3 b j n) = (Rvq.toks z w c b n j : EReal) :=
  (rIn_at z w c b j n).trans (hf.toks_eq b n j)

theorem codes_eq : rCodes (books cb) (rIn z w c) = Rvq.codesOf (Rvq.books cb) (Rvq.toks z w c) := by
  funext y
  obtain ⟨b, i, n, rfl⟩ : ∃ (b : Fin 4) (i : Fin 8) (n : Fin 1024), y = ix3 b i n := ⟨y 0, y 1, y 2, by funext a; fin_cases a <;> rfl⟩
  exact (rCodes_at _ _ b i n).trans (rCodeOf_at (books_real hf) (toks_real hf) i.val i.isLt b n)

theorem out_eq (v : FVec Ideal S768x128 .f32) (d : FVec Ideal S768 .f32) :
    rOut (rSum (books cb) (rIn z w c) 8) v d = Rvq.outOf (Rvq.books cb) (Rvq.toks z w c) v d := by
  funext y
  obtain ⟨b, j, n, rfl⟩ : ∃ (b : Fin 4) (j : Fin 768) (n : Fin 1024), y = ix3 b j n := ⟨y 0, y 1, y 2, by funext a; fin_cases a <;> rfl⟩
  rw [rOut_at]
  simp only [rSum_at (books_real hf) (toks_real hf) 8 le_rfl]
  rfl

theorem loss_eq : Host.divf (rTot (books cb) (rIn z w c) 8) (constant (F := Ideal) S_ .f32 0x41000000#32)
    = fun _ => (Rvq.lossOf (Rvq.books cb) (Rvq.toks z w c) : EReal) := by
  funext y
  have e : Host.divf (rTot (books cb) (rIn z w c) 8) (constant (F := Ideal) S_ .f32 0x41000000#32) y
      = Ideal.div (rTot (books cb) (rIn z w c) 8 y) (Ideal.ofBits .f32 0x41000000#32) := rfl
  rw [e, rTot_at (books_real hf) (toks_real hf) 8 le_rfl, ofBits_eight, Ideal.div_coe (by norm_num), ← EReal.coe_mul]
  have q : ∑ a ∈ Finset.range 8, ∑ b, ∑ j, ∑ n, Rvq.gap (Rvq.books cb) (Rvq.toks z w c b n) a j * Rvq.gap (Rvq.books cb) (Rvq.toks z w c b n) a j
      = ∑ b, ∑ n, Rvq.gaps (Rvq.books cb) (Rvq.toks z w c b n) := by
    rw [Finset.sum_comm]
    refine Finset.sum_congr rfl fun b _ => ?_
    simp only [Rvq.gaps]
    rw [Finset.sum_comm (s := Finset.univ (α := Fin 1024))]
    exact Finset.sum_congr rfl fun a _ => Finset.sum_comm
  rw [Rvq.lossOf, ← q, ← Finset.sum_div, mul_one_div, div_div]
  norm_num

end Cert.ReferenceIdeal.Hand
-- ==== Proof.Pre.lean ====
/- The precondition read: the four arrays that it names hold real numbers only. -/
module

public import proofs.«01_k».proof.Pre_finite
public import proofs.«01_k».proof.Proof.Inputs
public import Idealize.ShloMosaic.Lib.ReduceAll
public import Idealize.ShloMosaic.Lib.Pointwise

@[expose] public section

noncomputable section

namespace Cert.Pre_finite.Hand

open Cert.Pre_finite Idealize.ShloMosaic

theorem facts : Cert.Pre_finite.Facts where
  bcast_S_S4x768x1024 := by decide
  reducesTo_S4x768x1024_S_d0_1_2 := by decide
  h_S_ := by decide
  bcast_S_S128x768 := by decide
  reducesTo_S128x768_S_d0_1 := by decide
  bcast_S_S128 := by decide
  reducesTo_S128_S_d0 := by decide
  bcast_S_S8x2048x128 := by decide
  reducesTo_S8x2048x128_S_d0_1_2 := by decide

theorem ofBits_top : Ideal.ofBits .f32 0x7F800000#32 = ⊤ := by
  simp [Ideal.ofBits, Ideal.ieee]

/-- A value whose absolute value is below infinity is a real number. -/
theorem real_of_lt {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) :
    ∃ r : ℝ, x i = (r : EReal) := by
  have e' : BitVec.ofBool (decide (max (x i) (-(x i)) < Ideal.ofBits .f32 0x7F800000#32)) = 1#1 := e
  rw [ofBits_top] at e'
  have hlt : max (x i) (-(x i)) < ⊤ := by
    by_contra hn
    rw [decide_eq_false hn] at e'
    exact absurd e' (by decide)
  have h1 : x i ≠ ⊤ := fun q => by rw [q] at hlt; simp at hlt
  have h2 : x i ≠ ⊥ := fun q => by rw [q] at hlt; simp at hlt
  exact ⟨EReal.toReal (x i), (EReal.coe_toReal h1 h2).symm⟩

instance : Subsingleton S_.Idx := ⟨fun a b => funext fun k => k.elim0⟩

theorem finite [Facts] (z : FVec Ideal S4x768x1024 .f32) (w : FVec Ideal S128x768 .f32) (c : FVec Ideal S128 .f32)
    (w2 : FVec Ideal S768x128 .f32) (c2 : FVec Ideal S768 .f32) (cb : FVec Ideal S8x2048x128 .f32)
    (h : fn (F := Ideal) z w c w2 c2 cb = fun _ => 1#1) : Rvq.Finite z w c cb := by
  have h0 : fn (F := Ideal) z w c w2 c2 cb (fun k => k.elim0) = 1#1 := congrFun h _
  unfold fn fn_part1 at h0
  obtain ⟨h1, h5⟩ := IntOp.andi_eq_one.1 h0
  obtain ⟨h2, h4⟩ := IntOp.andi_eq_one.1 h1
  obtain ⟨h6, h3⟩ := IntOp.andi_eq_one.1 h2
  exact ⟨fun y => real_of_lt z _ y (Host.reduce_andi_all _ _ _ _ _ h6 y), fun y => real_of_lt w _ y (Host.reduce_andi_all _ _ _ _ _ h3 y),
    fun y => real_of_lt c _ y (Host.reduce_andi_all _ _ _ _ _ h4 y), fun y => real_of_lt cb _ y (Host.reduce_andi_all _ _ _ _ _ h5 y)⟩

end Cert.Pre_finite.Hand
-- ==== Proof.lean ====
/- The claims about the residual vector quantizer, put together.

   Three frames: the kernel on bits, the kernel and the reference on extended reals, each ends with its arguments as
   they were and every counter at zero. The kernel's are the frame run's; the reference's is `RefRun`.

   The value claim: on inputs whose tokens, input projection and codebooks are finite, both programs end with the same
   three results. They are stated once, over the real numbers, in `Inputs` (`codesOf`, `outOf`, `lossOf`) from the
   functions of `Spec`; `KerRun` shows that the kernel ends with them and `RefVal` that the reference does. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.KerRun
public import proofs.«01_k».proof.Proof.RefVal
public import proofs.«01_k».proof.Proof.Pre
public import Idealize.ShloMosaic.Adequacy
public import Idealize.ShloMosaic.Init

@[expose] public section

noncomputable section

namespace Cert.Proof

open Idealize.ShloMosaic Idealize.SL.Sem

/-- The reference's frame. -/
theorem frame_reference : Cert.quiescent_ReferenceIdeal (hReferenceIdeal := Cert.ReferenceIdeal.Gen.facts) := fun m g _ =>
  θ_run_mono (Cert.ReferenceIdeal.Hand.run (F := Ideal) m g) fun r h => ⟨fun c => (h.1 c).2, h.2⟩

/-- The kernel and the reference end with the same results. -/
theorem same : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  intro m g m' g' hpre hag
  have hf : ∀ c, Cert.KernelIdeal.Hand.Fin_ m c := fun c =>
    @Cert.Pre_finite.Hand.finite Cert.Pre_finite.Hand.facts _ _ _ _ _ _ (hpre c)
  refine ⟨fun c => Rvq.codesOf (Cert.KernelIdeal.Hand.mE m c) (Cert.KernelIdeal.Hand.mT m c),
    fun c => Rvq.outOf (Cert.KernelIdeal.Hand.mE m c) (Cert.KernelIdeal.Hand.mT m c) (Cert.KernelIdeal.Hand.arg3 m c)
      (Cert.KernelIdeal.Hand.arg4 m c),
    fun c => fun _ => (Rvq.lossOf (Cert.KernelIdeal.Hand.mE m c) (Cert.KernelIdeal.Hand.mT m c) : EReal), ?_, ?_⟩
  · exact θ_run_mono (θ_run_and (Cert.KernelIdeal.Hand.run_finite g hf) (Cert.KernelIdeal.Gen.unchanged m g)) fun r h c =>
      ⟨(h.1 c).1, (h.1 c).2.1, (h.1 c).2.2, h.2 c⟩
  · refine θ_run_mono (Cert.ReferenceIdeal.Hand.run (F := Ideal) m' g') fun r h c => ?_
    obtain ⟨⟨h0, h1, h2⟩, hu⟩ := h.1 c
    obtain ⟨a0, a1, a2, a3, a4, a5⟩ := hag c
    have e0 : Cert.ReferenceIdeal.Hand.arg0 m' c = Cert.KernelIdeal.Hand.arg0 m c := a0
    have e1 : Cert.ReferenceIdeal.Hand.arg1 m' c = Cert.KernelIdeal.Hand.arg1 m c := a1
    have e2 : Cert.ReferenceIdeal.Hand.arg2 m' c = Cert.KernelIdeal.Hand.arg2 m c := a2
    have e3 : Cert.ReferenceIdeal.Hand.arg3 m' c = Cert.KernelIdeal.Hand.arg3 m c := a3
    have e4 : Cert.ReferenceIdeal.Hand.arg4 m' c = Cert.KernelIdeal.Hand.arg4 m c := a4
    have e5 : Cert.ReferenceIdeal.Hand.arg5 m' c = Cert.KernelIdeal.Hand.arg5 m c := a5
    rw [e0, e1, e2, e5] at h0 h2
    rw [e0, e1, e2, e3, e4, e5] at h1
    exact ⟨h0.trans (Cert.ReferenceIdeal.Hand.codes_eq (hf c)), h1.trans (Cert.ReferenceIdeal.Hand.out_eq (hf c) _ _),
      h2.trans (Cert.ReferenceIdeal.Hand.loss_eq (hf c)), hu⟩

theorem claim : Cert.Claim :=
  ⟨Cert.Kernel.Gen.facts, Cert.KernelIdeal.Gen.facts, Cert.ReferenceIdeal.Gen.facts, Cert.Pre_finite.Hand.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    same⟩

end Cert.Proof

end
